-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S1 : Shape := ⟨1, ![1]⟩
abbrev S4x1024x1024 : Shape := ⟨3, ![4, 1024, 1024]⟩
abbrev S2x2x512x1024 : Shape := ⟨4, ![2, 2, 512, 1024]⟩
abbrev S3x2x512x1024 : Shape := ⟨4, ![3, 2, 512, 1024]⟩
abbrev S4 : Shape := ⟨1, ![4]⟩
abbrev S2x2 : Shape := ⟨2, ![2, 2]⟩
abbrev S3x2 : Shape := ⟨2, ![3, 2]⟩
abbrev S_ : Shape := ⟨0, ![]⟩
abbrev S1x1024x1024 : Shape := ⟨3, ![1, 1024, 1024]⟩
abbrev S1024x1024 : Shape := ⟨2, ![1024, 1024]⟩
abbrev S1x512x1024 : Shape := ⟨3, ![1, 512, 1024]⟩
abbrev S512x1024 : Shape := ⟨2, ![512, 1024]⟩
abbrev S1x1x512x1024 : Shape := ⟨4, ![1, 1, 512, 1024]⟩
abbrev S1x1 : Shape := ⟨2, ![1, 1]⟩

abbrev nBuf : Space → Nat
  | .hbm => 5
  | .vmem => 7
  | .smem => 2
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S1, .f32⟩
  | .hbm, ⟨3, _⟩ => ⟨S1, .f32⟩
  | .hbm, ⟨4, _⟩ => ⟨S1024x2048, .f32⟩
  | .local _ .vmem, ⟨0, _⟩ => ⟨S1024x2048, .f32⟩
  | .local _ .vmem, ⟨1, _⟩ => ⟨S4x1024x1024, .f32⟩
  | .local _ .vmem, ⟨2, _⟩ => ⟨S1024x2048, .fp8e4m3⟩
  | .local _ .vmem, ⟨3, _⟩ => ⟨S2x2x512x1024, .bf16⟩
  | .local _ .vmem, ⟨4, _⟩ => ⟨S2x2x512x1024, .bf16⟩
  | .local _ .vmem, ⟨5, _⟩ => ⟨S3x2x512x1024, .bf16⟩
  | .local _ .vmem, ⟨6, _⟩ => ⟨S3x2x512x1024, .bf16⟩
  | .local _ .smem, ⟨0, _⟩ => ⟨S1, .f32⟩
  | .local _ .smem, ⟨1, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v13 : BitVec 32 := Scalar.addi v2 c3_i32
  let c4_i32_10 : BitVec 32 := 4#32
  let v14 : BitVec 32 := Scalar.remsi v13 c4_i32_10
  let c1024_i32 : BitVec 32 := 1024#32
  let v15 : BitVec 32 := Scalar.muli v14 c1024_i32
  let c0_i32_15 : BitVec 32 := 0#32
  ![v15.toNat, 0]
def k0_dev3 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_69 : BitVec 32 := 1#32
  let v70 : BitVec 32 := Scalar.muli v7 c1_i32_69
  let v71 : BitVec 32 := Scalar.addi c0_i32_70 v70
  v71.toNat
def k0_dev4 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_91 : BitVec 32 := 1#32
  let v89 : BitVec 32 := Scalar.muli v5 c1_i32_91
  let v90 : BitVec 32 := Scalar.addi c0_i32_92 v89
  v90.toNat
def k0_dev5 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_114 : BitVec 32 := 1#32
  let v108 : BitVec 32 := Scalar.muli v7 c1_i32_114
  let v109 : BitVec 32 := Scalar.addi c0_i32_115 v108
  v109.toNat
def k0_dev6 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_138 : BitVec 32 := 1#32
  let v127 : BitVec 32 := Scalar.muli v5 c1_i32_138
  let v128 : BitVec 32 := Scalar.addi c0_i32_139 v127
  v128.toNat
def k0_dev7 (d0 : Dev nD) : Nat :=
  let c0_i32_224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_223 : BitVec 32 := 1#32
  let v194 : BitVec 32 := Scalar.muli v7 c1_i32_223
  let v195 : BitVec 32 := Scalar.addi c0_i32_224 v194
  v195.toNat
def k0_dev8 (d0 : Dev nD) : Nat :=
  let c0_i32_277 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_276 : BitVec 32 := 1#32
  let v226 : BitVec 32 := Scalar.muli v5 c1_i32_276
  let v227 : BitVec 32 := Scalar.addi c0_i32_277 v226
  v227.toNat
def k0_dev9 (d0 : Dev nD) : Nat :=
  let c0_i32_330 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_329 : BitVec 32 := 1#32
  let v258 : BitVec 32 := Scalar.muli v7 c1_i32_329
  let v259 : BitVec 32 := Scalar.addi c0_i32_330 v258
  v259.toNat
def k0_dev10 (d0 : Dev nD) : Nat :=
  let c0_i32_383 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_382 : BitVec 32 := 1#32
  let v290 : BitVec 32 := Scalar.muli v5 c1_i32_382
  let v291 : BitVec 32 := Scalar.addi c0_i32_383 v290
  v291.toNat
def k0_dev11 (d0 : Dev nD) : Nat :=
  let c0_i32_464 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_463 : BitVec 32 := 1#32
  let v352 : BitVec 32 := Scalar.muli v7 c1_i32_463
  let v353 : BitVec 32 := Scalar.addi c0_i32_464 v352
  v353.toNat
def k0_dev12 (d0 : Dev nD) : Nat :=
  let c0_i32_517 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_516 : BitVec 32 := 1#32
  let v384 : BitVec 32 := Scalar.muli v5 c1_i32_516
  let v385 : BitVec 32 := Scalar.addi c0_i32_517 v384
  v385.toNat
def k0_dev13 (d0 : Dev nD) : Nat :=
  let c0_i32_570 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_569 : BitVec 32 := 1#32
  let v416 : BitVec 32 := Scalar.muli v7 c1_i32_569
  let v417 : BitVec 32 := Scalar.addi c0_i32_570 v416
  v417.toNat
def k0_dev14 (d0 : Dev nD) : Nat :=
  let c0_i32_623 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_622 : BitVec 32 := 1#32
  let v448 : BitVec 32 := Scalar.muli v5 c1_i32_622
  let v449 : BitVec 32 := Scalar.addi c0_i32_623 v448
  v449.toNat
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Ring.lean ====
/-
# The two-way ring: its cells, its contents, its schedule

Device `c` of four sends, three times over and in two row halves, a block to its right neighbour (the clockwise ring,
`d = true`) and one to its left neighbour (the counter-clockwise ring, `d = false`). A send slot is used by rounds 0
and 2 (`q = 0`) and by round 1 (`q = 1`); every round has a landing slot of its own. This module states which
semaphore carries which round, what every slot holds when it is sent or has landed, who pays what to whom, and in
which order the waits are allowed.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdxCore
public import Init.Data.Sum.Basic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The ghost state -/

/-- The rounds' ghost state, duties named by a Boolean. -/
abbrev UB : Type := URounds (GSem nD τ sig) Bool
/-- The user's ghost state: the pipeline's, the rounds', and the counters of local copies in flight. -/
abbrev UU : Type := UR sig nD τ × (UB × Counters)

local notation "𝕄" => MT nD τ sig Unit (Elt F) ℕ UU ℕ

/-- The pipeline's ghost state among the whole. -/
abbrev EP : Emb (UR sig nD τ) (MT nD τ sig Unit (Elt F) ℕ UU ℕ) := embL
/-- The rounds' ghost state among the whole. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ) (ρ : Dev nD → PrngReg)

/-- The machine's state at the launch. -/
def s₀ : MemSt nD τ sig (Elt F) := ⟨m, fun _ => 0, ρ⟩

/-! ## The ring -/

/-- The right neighbour. -/
@[irreducible] def nxt (c : Dev nD) : Dev nD := ⟨(c.val + 1) % 4, Nat.mod_lt _ (by decide)⟩
/-- The left neighbour. -/
@[irreducible] def prv (c : Dev nD) : Dev nD := ⟨(c.val + 3) % 4, Nat.mod_lt _ (by decide)⟩
theorem nxt_val (c : Dev nD) : (nxt c).val = (c.val + 1) % 4 := by unfold nxt; rfl
theorem prv_val (c : Dev nD) : (prv c).val = (c.val + 3) % 4 := by unfold prv; rfl
theorem prv_nxt (c : Dev nD) : prv (nxt c) = c := Fin.ext (by rw [prv_val, nxt_val]; have := c.2; change c.val < 4 at this; omega)
theorem nxt_prv (c : Dev nD) : nxt (prv c) = c := Fin.ext (by rw [nxt_val, prv_val]; have := c.2; change c.val < 4 at this; omega)

/-- Whom device `c` sends to in the ring of direction `d`: right when clockwise, left otherwise. -/
abbrev dst (d : Bool) (c : Dev nD) : Dev nD := match d with | true => nxt c | false => prv c
/-- Whom device `c` receives from in the ring of direction `d`. -/
abbrev src (d : Bool) (c : Dev nD) : Dev nD := match d with | true => prv c | false => nxt c
theorem src_dst (d : Bool) (c : Dev nD) : src d (dst d c) = c := by cases d <;> [exact nxt_prv c; exact prv_nxt c]
theorem dst_src (d : Bool) (c : Dev nD) : dst d (src d c) = c := by cases d <;> [exact prv_nxt c; exact nxt_prv c]

/-- One step round the ring of direction `d`, as a permutation of the devices. -/
def ring (d : Bool) : Dev nD ≃ Dev nD := ⟨dst d, src d, src_dst d, dst_src d⟩

theorem dev1_eq (c : Dev nD) : (⟨k0_dev1 c, k0_dev1_lt c⟩ : Dev nD) = prv c := Fin.ext ((k0_dev1_eq c).trans (prv_val c).symm)
theorem dev2_eq (c : Dev nD) : (⟨k0_dev2 c, k0_dev2_lt c⟩ : Dev nD) = nxt c := Fin.ext ((k0_dev2_eq c).trans (nxt_val c).symm)
theorem dev3_eq (c : Dev nD) : (⟨k0_dev3 c, k0_dev3_lt c⟩ : Dev nD) = nxt c := Fin.ext ((k0_dev3_eq c).trans (nxt_val c).symm)
theorem dev4_eq (c : Dev nD) : (⟨k0_dev4 c, k0_dev4_lt c⟩ : Dev nD) = prv c := Fin.ext ((k0_dev4_eq c).trans (prv_val c).symm)
theorem dev5_eq (c : Dev nD) : (⟨k0_dev5 c, k0_dev5_lt c⟩ : Dev nD) = nxt c := Fin.ext ((k0_dev5_eq c).trans (nxt_val c).symm)
theorem dev6_eq (c : Dev nD) : (⟨k0_dev6 c, k0_dev6_lt c⟩ : Dev nD) = prv c := Fin.ext ((k0_dev6_eq c).trans (prv_val c).symm)
theorem dev7_eq (c : Dev nD) : (⟨k0_dev7 c, k0_dev7_lt c⟩ : Dev nD) = nxt c := Fin.ext ((k0_dev7_eq c).trans (nxt_val c).symm)
theorem dev8_eq (c : Dev nD) : (⟨k0_dev8 c, k0_dev8_lt c⟩ : Dev nD) = prv c := Fin.ext ((k0_dev8_eq c).trans (prv_val c).symm)
theorem dev9_eq (c : Dev nD) : (⟨k0_dev9 c, k0_dev9_lt c⟩ : Dev nD) = nxt c := Fin.ext ((k0_dev9_eq c).trans (nxt_val c).symm)
theorem dev10_eq (c : Dev nD) : (⟨k0_dev10 c, k0_dev10_lt c⟩ : Dev nD) = prv c := Fin.ext ((k0_dev10_eq c).trans (prv_val c).symm)
theorem dev11_eq (c : Dev nD) : (⟨k0_dev11 c, k0_dev11_lt c⟩ : Dev nD) = nxt c := Fin.ext ((k0_dev11_eq c).trans (nxt_val c).symm)
theorem dev12_eq (c : Dev nD) : (⟨k0_dev12 c, k0_dev12_lt c⟩ : Dev nD) = prv c := Fin.ext ((k0_dev12_eq c).trans (prv_val c).symm)
theorem dev13_eq (c : Dev nD) : (⟨k0_dev13 c, k0_dev13_lt c⟩ : Dev nD) = nxt c := Fin.ext ((k0_dev13_eq c).trans (nxt_val c).symm)
theorem dev14_eq (c : Dev nD) : (⟨k0_dev14 c, k0_dev14_lt c⟩ : Dev nD) = prv c := Fin.ext ((k0_dev14_eq c).trans (prv_val c).symm)

/-! ## The memrefs -/

/-- The device's columns of `x`. -/
abbrev xM : Memref sig .tc .hbm S4096x1024 .f32 := Memref.whole main_arg0
/-- The device's rows of `w`, staged. -/
abbrev wM : Memref sig .tc .vmem S1024x2048 .f32 := Memref.whole cc0_stg0_0
/-- The two scale factors, staged. -/
abbrev sxM : Memref sig .tc .smem S1 .f32 := Memref.whole cc0_stg1_0
abbrev swM : Memref sig .tc .smem S1 .f32 := Memref.whole cc0_stg2_0
/-- The result. -/
abbrev oM : Memref sig .tc .hbm S1024x2048 .f32 := Memref.whole main_v1
/-- Four row blocks of `x`, copied in. -/
abbrev stM : Memref sig .tc .vmem S4x1024x1024 .f32 := Memref.whole cc0_scratch0
/-- `w` in eight bits. -/
abbrev wqM : Memref sig .tc .vmem S1024x2048 .fp8e4m3 := Memref.whole cc0_scratch1
/-- The send buffers and the landing buffers, by direction. -/
abbrev sndM (d : Bool) : Memref sig .tc .vmem S2x2x512x1024 .bf16 :=
  match d with | true => Memref.whole cc0_scratch2 | false => Memref.whole cc0_scratch3
abbrev rcvM (d : Bool) : Memref sig .tc .vmem S3x2x512x1024 .bf16 :=
  match d with | true => Memref.whole cc0_scratch4 | false => Memref.whole cc0_scratch5

/-- The rectangle of send slot `q`, half `j`. -/
theorem sndInb (q j : Fin 2) : ∀ a, (![q.val, j.val, 0, 0] : Fin 4 → Nat) a + S1x1x512x1024.size a ≤ S2x2x512x1024.size a := by
  revert q j; decide
abbrev sndR (q j : Fin 2) : Rect S2x2x512x1024 := Rect.unit (s := S2x2x512x1024) ![q.val, j.val, 0, 0] S1x1x512x1024.size (sndInb q j)
/-- The rectangle of landing slot `s`, half `j`. -/
theorem rcvInb (s : Fin 3) (j : Fin 2) : ∀ a, (![s.val, j.val, 0, 0] : Fin 4 → Nat) a + S1x1x512x1024.size a ≤ S3x2x512x1024.size a := by
  revert s j; decide
abbrev rcvR (s : Fin 3) (j : Fin 2) : Rect S3x2x512x1024 := Rect.unit (s := S3x2x512x1024) ![s.val, j.val, 0, 0] S1x1x512x1024.size (rcvInb s j)
/-- The slots as memrefs, with their two unit axes. -/
abbrev sndSlot (d : Bool) (q j : Fin 2) : Memref sig .tc .vmem S1x1x512x1024 .bf16 := (sndM d).slice (sndR q j) (fun _ => rfl)
abbrev rcvSlot (d : Bool) (s : Fin 3) (j : Fin 2) : Memref sig .tc .vmem S1x1x512x1024 .bf16 := (rcvM d).slice (rcvR s j) (fun _ => rfl)
/-- The slots as the transfers name them, without the unit axes. -/
abbrev sndQ (d : Bool) (q j : Fin 2) : Memref sig .tc .vmem S512x1024 .bf16 := (sndSlot d q j).squeeze S512x1024 squeezes_S1x1x512x1024_S512x1024
abbrev rcvQ (d : Bool) (s : Fin 3) (j : Fin 2) : Memref sig .tc .vmem S512x1024 .bf16 := (rcvSlot d s j).squeeze S512x1024 squeezes_S1x1x512x1024_S512x1024

/-- Row block `k` of the staging buffer, and its row half `h`. -/
theorem stInb (k : Fin 4) : ∀ a, (![k.val, 0, 0] : Fin 3 → Nat) a + S1x1024x1024.size a ≤ S4x1024x1024.size a := by revert k; decide
abbrev stR (k : Fin 4) : Rect S4x1024x1024 := Rect.unit (s := S4x1024x1024) ![k.val, 0, 0] S1x1024x1024.size (stInb k)
abbrev half (h : Fin 2) : ℕ := match h with | 0 => 0 | 1 => 512
theorem hfInb (k : Fin 4) (h : Fin 2) : ∀ a, (![k.val, half h, 0] : Fin 3 → Nat) a + S1x512x1024.size a ≤ S4x1024x1024.size a := by
  revert k h; decide
abbrev hfR (k : Fin 4) (h : Fin 2) : Rect S4x1024x1024 := Rect.unit (s := S4x1024x1024) ![k.val, half h, 0] S1x512x1024.size (hfInb k h)
abbrev stSlot (k : Fin 4) : Memref sig .tc .vmem S1x1024x1024 .f32 := stM.slice (stR k) (fun _ => rfl)
abbrev stQ (k : Fin 4) : Memref sig .tc .vmem S1024x1024 .f32 := (stSlot k).squeeze S1024x1024 squeezes_S1x1024x1024_S1024x1024
abbrev hfSlot (k : Fin 4) (h : Fin 2) : Memref sig .tc .vmem S1x512x1024 .f32 := stM.slice (hfR k h) (fun _ => rfl)
abbrev hfQ (k : Fin 4) (h : Fin 2) : Memref sig .tc .vmem S512x1024 .f32 := (hfSlot k h).squeeze S512x1024 squeezes_S1x512x1024_S512x1024

/-- The rows of `x` that copy `j` reads on device `c`: row block `(c + j) mod 4`. -/
abbrev xR (c : Dev nD) (j : Fin 4) : Rect S4096x1024 :=
  Rect.unit (s := S4096x1024) (k0_off1 c (BitVec.ofNat 32 j.val)) S1024x1024.size (k0_off1_inb c j)
abbrev xBlk (c : Dev nD) (j : Fin 4) : Memref sig .tc .hbm S1024x1024 .f32 := xM.slice (xR c j) (fun _ => rfl)

/-- A direction's half of the columns: the clockwise ring works on the left half. -/
abbrev col (d : Bool) : ℕ := match d with | true => 0 | false => 1024
theorem wqInb (d : Bool) : ∀ a, (![0, col d] : Fin 2 → Nat) a + S1024x1024.size a ≤ S1024x2048.size a := by revert d; decide
abbrev wqR (d : Bool) : Rect S1024x2048 := Rect.unit (s := S1024x2048) ![0, col d] S1024x1024.size (wqInb d)
theorem oInb (h : Fin 2) (d : Bool) : ∀ a, (![half h, col d] : Fin 2 → Nat) a + S512x1024.size a ≤ S1024x2048.size a := by revert h d; decide
/-- The quarter of the result that half `h` of direction `d` computes. -/
abbrev oR (h : Fin 2) (d : Bool) : Rect S1024x2048 := Rect.unit (s := S1024x2048) ![half h, col d] S512x1024.size (oInb h d)
abbrev oBlk (h : Fin 2) (d : Bool) : Memref sig .tc .hbm S512x1024 .f32 := oM.slice (oR h d) (fun _ => rfl)

/-! ## The contents -/

/-- `w`'s rows on device `c`, as staged. -/
def wstg (c : Dev nD) : (cc0_stg0_0 : Ref sig .tc).ty.Contents (Elt F) :=
  (win0_0.blk (0 : Fin 1)).view.read (Elt F) (m ((c : Thread nD τ).loc main_arg1))
def sxstg (c : Dev nD) : (cc0_stg1_0 : Ref sig .tc).ty.Contents (Elt F) :=
  (win0_1.blk (0 : Fin 1)).view.read (Elt F) (m ((c : Thread nD τ).loc main_arg2))
def swstg (c : Dev nD) : (cc0_stg2_0 : Ref sig .tc).ty.Contents (Elt F) :=
  (win0_2.blk (0 : Fin 1)).view.read (Elt F) (m ((c : Thread nD τ).loc main_arg3))
/-- `w`'s rows in eight bits. -/
def wqF (c : Dev nD) : Vec F S1024x2048 .fp8e4m3 := k0_pay1 (wstg m c)
/-- The staging buffer once the four copies have landed. -/
def stageF (c : Dev nD) : Vec F S4x1024x1024 .f32 :=
  fun i => (xBlk c (i 0)).view.read (Elt F) (m ((c : Thread nD τ).loc main_arg0)) (ix2 (i 1) (i 2))
/-- Its half blocks, its blocks, `w`'s column halves, the product of the scale factors, as the kernel loads them. -/
def Ah (c : Dev nD) (k : Fin 4) (h : Fin 2) : Vec F S1x512x1024 .f32 := (stM.access (hfR k h)).read (Elt F) (stageF m c)
def Ab (c : Dev nD) (k : Fin 4) : Vec F S1x1024x1024 .f32 := (stM.access (stR k)).read (Elt F) (stageF m c)
def Bw (c : Dev nD) (d : Bool) : Vec F S1024x1024 .fp8e4m3 := (wqM.access (wqR d)).read (Elt F) (wqF m c)
def scl (c : Dev nD) : Elt F .f32 := k0_pay31 (sxstg m c (ix1 (0 : Fin 1))) (swstg m c (ix1 (0 : Fin 1)))

/-- The rows of half `h` of a partial product, in sixteen bits, as a slot. -/
def rowsOf (h : Fin 2) (P : FVec F S1024x1024 .f32) : FVec F S1x1x512x1024 .bf16 :=
  match h with
  | 0 => k0_pay11 (truncf .bf16 (extractStridedSlice S512x1024 ![0, 0] P slices_S1024x1024_o0_0_S512x1024) bitsLt_bf16_f32)
  | 1 => k0_pay12 P
/-- The last step of half `h`: its rows of the partial product, plus what has landed, times the scale. -/
def finOf (h : Fin 2) (P : FVec F S1024x1024 .f32) (sc : F .f32) (r : Vec F S1x1x512x1024 .bf16) : FVec F S1x512x1024 .f32 :=
  match h with | 0 => k0_pay32 P sc r | 1 => k0_pay35 P sc r
/-- The product of row block `k` of the staging buffer with direction `d`'s columns of `w`. -/
def part (c : Dev nD) (k : Fin 4) (d : Bool) : FVec F S1024x1024 .f32 := k0_pay7 (Ab m c k) (Bw m c d)

/-- The row block that direction `d` starts with, and the one it adds in the third round. -/
abbrev first (d : Bool) : Fin 4 := match d with | true => 3 | false => 1
abbrev third (d : Bool) : Fin 4 := match d with | true => 1 | false => 3

/-- What device `c` sends in each round: a partial product of its own, from the second round on added to what has
    landed from the round before. -/
def sent0 (d : Bool) (j : Fin 2) (c : Dev nD) : Vec F S1x1x512x1024 .bf16 := k0_pay2 (Ah m c (first d) j) (Bw m c d)
def sent1 (d : Bool) (j : Fin 2) (c : Dev nD) : Vec F S1x1x512x1024 .bf16 :=
  k0_pay14 (rowsOf j (part m c 2 d)) (sent0 m d j (src d c))
def sent2 (d : Bool) (j : Fin 2) (c : Dev nD) : Vec F S1x1x512x1024 .bf16 :=
  k0_pay14 (rowsOf j (part m c (third d) d)) (sent1 m d j (src d c))
def sent (d : Bool) (s : Fin 3) (j : Fin 2) (c : Dev nD) : Vec F S1x1x512x1024 .bf16 :=
  match s with | 0 => sent0 m d j c | 1 => sent1 m d j c | 2 => sent2 m d j c
/-- Half `j` of direction `d`'s columns of the result on device `c`, and the result. -/
def outH (d : Bool) (j : Fin 2) (c : Dev nD) : Vec F S1x512x1024 .f32 :=
  finOf j (part m c 0 d) (scl m c) (sent2 m d j (src d c))
def outF (c : Dev nD) : Vec F S1024x2048 .f32 := fun i =>
  outH m (decide ((i 1).val < 1024)) (if (i 0).val < 512 then 0 else 1) c
    (ix3 0 ⟨(i 0).val % 512, Nat.mod_lt _ (by decide)⟩ ⟨(i 1).val % 1024, Nat.mod_lt _ (by decide)⟩)

/-! ## The cells -/

/-- The cells of a transfer: a send slot's, or a landing slot's. -/
abbrev XK : Type := (Bool × Fin 2 × Fin 2) ⊕ (Bool × Fin 3 × Fin 2)
/-- All cells of a device: the barrier's, and the transfers'. -/
abbrev CK : Type := Unit ⊕ XK
instance instDecidableEqXK : DecidableEq XK := inferInstance
instance instDecidableEqCK : DecidableEq CK := instDecidableEqSum
instance instDecidableEqDevCK : DecidableEq (Dev nD × CK) := instDecidableEqProd

/-- The semaphores of the slots. -/
def sndS (d : Bool) (q j : Fin 2) : DmaSem sig :=
  ⟨(match d with | true => 7 | false => 11) + 2 * q.val + j.val, by have := q.2; have := j.2; cases d <;> (change _ < 27; dsimp only; omega)⟩
def rcvS (d : Bool) (s : Fin 3) (j : Fin 2) : DmaSem sig :=
  ⟨(match d with | true => 15 | false => 21) + 2 * s.val + j.val, by have := s.2; have := j.2; cases d <;> (change _ < 27; dsimp only; omega)⟩
/-- The semaphores of the copies into and out of the staging buffer. -/
def stS (k : Fin 4) : DmaSem sig := ⟨3 + k.val, by have := k.2; change _ < 27; omega⟩
abbrev barS : Sem sig := 0

abbrev semOf : CK → SemLoc sig
  | .inl () => .reg barS
  | .inr (.inl (d, q, j)) => .dma (sndS d q j)
  | .inr (.inr (d, s, j)) => .dma (rcvS d s j)

/-- Which cell a semaphore is. -/
def kindOf : SemLoc sig → Option CK
  | .reg _ => some (.inl ())
  | .dma i =>
    if i.val < 7 then none
    else if i.val < 15 then
      some (.inr (.inl (decide (i.val < 11), ⟨(i.val - 7) % 4 / 2, by omega⟩, ⟨(i.val - 7) % 2, by omega⟩)))
    else some (.inr (.inr (decide (i.val < 21), ⟨(i.val - 15) % 6 / 2, by omega⟩, ⟨(i.val - 15) % 2, by omega⟩)))

theorem kindOf_semOf (k : CK) : kindOf (semOf k) = some k := by
  rcases k with ⟨⟩ | ⟨d, q, j⟩ | ⟨d, s, j⟩
  · rfl
  · cases d <;> fin_cases q <;> fin_cases j <;> rfl
  · cases d <;> fin_cases s <;> fin_cases j <;> rfl
theorem kindOf_snd (d : Bool) (q j : Fin 2) : kindOf (.dma (sndS d q j)) = some (.inr (.inl (d, q, j))) :=
  kindOf_semOf (.inr (.inl (d, q, j)))
theorem kindOf_rcv (d : Bool) (s : Fin 3) (j : Fin 2) : kindOf (.dma (rcvS d s j)) = some (.inr (.inr (d, s, j))) :=
  kindOf_semOf (.inr (.inr (d, s, j)))
theorem semOf_injective : Function.Injective semOf := fun a b h => by
  have := congrArg kindOf h; rw [kindOf_semOf, kindOf_semOf] at this; exact Option.some.inj this

abbrev cellAt (c : Dev nD) (k : CK) : GSem nD τ sig := ((c : Thread nD τ), semOf k)
abbrev barCell (c : Dev nD) : GSem nD τ sig := ((c : Thread nD τ), .reg barS)
abbrev sndCell (d : Bool) (q j : Fin 2) (c : Dev nD) : GSem nD τ sig := ((c : Thread nD τ), .dma (sndS d q j))
abbrev rcvCell (d : Bool) (s : Fin 3) (j : Fin 2) (c : Dev nD) : GSem nD τ sig := ((c : Thread nD τ), .dma (rcvS d s j))

/-- What a transfer of one slot credits. -/
abbrev N : ℕ := (sndQ true 0 0).view.dmaCredit
theorem N_pos : 0 < N := View.dmaCredit_pos _ (by decide)
theorem credit_snd (d : Bool) (q j : Fin 2) : (sndQ d q j).view.dmaCredit = N := by cases d <;> rfl
theorem credit_rcv (d : Bool) (s : Fin 3) (j : Fin 2) : (rcvQ d s j).view.dmaCredit = N := by cases d <;> rfl

/-! ## The schedule -/

/-- The six landing slots of direction `d` on device `c`, at any contents. -/
def landing (d : Bool) (c : Dev nD) : sProp 𝕄 :=
  bigSep (Finset.univ : Finset (Fin 3 × Fin 2)) fun p =>
    iprop(∃ X, owns (c : Thread nD τ) (rcvSlot d p.1 p.2) fullShare (X : Vec F S1x1x512x1024 .bf16))
/-- A send slot at any contents; a landing slot at what the round brings. -/
def sndAny (d : Bool) (q j : Fin 2) (c : Dev nD) : sProp 𝕄 :=
  iprop(∃ X, owns (c : Thread nD τ) (sndSlot d q j) fullShare (X : Vec F S1x1x512x1024 .bf16))
def rcvAt (d : Bool) (s : Fin 3) (j : Fin 2) (c : Dev nD) : sProp 𝕄 :=
  owns (c : Thread nD τ) (rcvSlot d s j) fullShare (sent m d s j (src d c))

instance landing_storable (d : Bool) (c : Dev nD) : BI.Storable (upEmb : UEmb _ 𝕄) (landing (F := F) d c) := by
  unfold landing; infer_instance
instance sndAny_storable (d : Bool) (q j : Fin 2) (c : Dev nD) : BI.Storable (upEmb : UEmb _ 𝕄) (sndAny (F := F) d q j c) := by
  unfold sndAny; infer_instance
instance rcvAt_storable (d : Bool) (s : Fin 3) (j : Fin 2) (c : Dev nD) : BI.Storable (upEmb : UEmb _ 𝕄) (rcvAt m d s j c) := by
  unfold rcvAt; infer_instance

/-- The duties of a cell by its kind: the barrier's two (direction `d`'s paid by the device that lands there), one per
    use of a send slot (slot 0 is used twice), one of a landing slot. -/
def dutiesOf : Option CK → ℕ → Finset Bool
  | some (.inl ()), r => if r = 0 then Finset.univ else ∅
  | some (.inr (.inl (_, q, _))), r => if r = 0 ∨ (q = 0 ∧ r = 1) then {false} else ∅
  | some (.inr (.inr _)), r => if r = 0 then {false} else ∅
  | none, _ => ∅
def amountOf : Option CK → ℕ
  | some (.inl ()) => 1
  | _ => N
def payOf (c : Dev nD) (b : Bool) : Option CK → sProp 𝕄
  | some (.inl ()) => landing b (dst b c)
  | some (.inr (.inl (d, q, j))) => sndAny d q j c
  | some (.inr (.inr (d, s, j))) => rcvAt m d s j c
  | none => iprop(emp)

theorem amountOf_pos : ∀ k, 0 < amountOf k
  | some (.inl ()) => Nat.one_pos
  | some (.inr (.inl _)) => N_pos
  | some (.inr (.inr _)) => N_pos
  | none => N_pos

def ringRd : Rounds.Schedule (GSem nD τ sig) Bool 𝕄 where
  duties g r := dutiesOf (kindOf g.2) r
  unitless _ := False
  amount g _ _ := amountOf (kindOf g.2)
  payload g _ b := payOf m g.1.1 b (kindOf g.2)
  amount_pos g _ _ _ := amountOf_pos _

instance payOf_storable (c : Dev nD) (b : Bool) : ∀ k, BI.Storable (upEmb : UEmb _ 𝕄) (payOf m c b k)
  | some (.inl ()) => by unfold payOf; infer_instance
  | some (.inr (.inl _)) => by unfold payOf; infer_instance
  | some (.inr (.inr _)) => by unfold payOf; infer_instance
  | none => by unfold payOf; infer_instance
instance ringRd_payload_storable (g : GSem nD τ sig) (r : ℕ) (b : Bool) :
    BI.Storable (upEmb : UEmb _ 𝕄) ((ringRd (F := F) m).payload g r b) := payOf_storable m g.1.1 b (kindOf g.2)

section Sched
variable (c : Dev nD)

theorem duties_bar : (ringRd m).duties (barCell c) 0 = Finset.univ := rfl
theorem duties_snd (d : Bool) (q j : Fin 2) : (ringRd m).duties (sndCell d q j c) 0 = {false} := by
  show dutiesOf (kindOf (.dma (sndS d q j))) 0 = _; rw [kindOf_snd]; rfl
theorem duties_snd1 (d : Bool) (j : Fin 2) : (ringRd m).duties (sndCell d 0 j c) 1 = {false} := by
  show dutiesOf (kindOf (.dma (sndS d 0 j))) 1 = _; rw [kindOf_snd]; rfl
theorem duties_rcv (d : Bool) (s : Fin 3) (j : Fin 2) : (ringRd m).duties (rcvCell d s j c) 0 = {false} := by
  show dutiesOf (kindOf (.dma (rcvS d s j))) 0 = _; rw [kindOf_rcv]; rfl

theorem amount_bar (r : ℕ) (b : Bool) : (ringRd m).amount (barCell c) r b = 1 := rfl
theorem amount_snd (d : Bool) (q j : Fin 2) (r : ℕ) (b : Bool) : (ringRd m).amount (sndCell d q j c) r b = N := by
  show amountOf (kindOf (.dma (sndS d q j))) = _; rw [kindOf_snd]; rfl
theorem amount_rcv (d : Bool) (s : Fin 3) (j : Fin 2) (r : ℕ) (b : Bool) : (ringRd m).amount (rcvCell d s j c) r b = N := by
  show amountOf (kindOf (.dma (rcvS d s j))) = _; rw [kindOf_rcv]; rfl

theorem payload_bar (r : ℕ) (b : Bool) : (ringRd m).payload (barCell c) r b = landing b (dst b c) := rfl
theorem payload_snd (d : Bool) (q j : Fin 2) (r : ℕ) (b : Bool) : (ringRd m).payload (sndCell d q j c) r b = sndAny d q j c := by
  show payOf m c b (kindOf (.dma (sndS d q j))) = _; rw [kindOf_snd]; rfl
theorem payload_rcv (d : Bool) (s : Fin 3) (j : Fin 2) (r : ℕ) (b : Bool) : (ringRd m).payload (rcvCell d s j c) r b = rcvAt m d s j c := by
  show payOf m c b (kindOf (.dma (rcvS d s j))) = _; rw [kindOf_rcv]; rfl

/-- What a round of each cell expects. -/
theorem expect_bar : (ringRd m).expect (barCell c) 0 = 2 := by
  unfold Schedule.expect Schedule.amountOf
  rw [duties_bar, Finset.sum_congr rfl fun d _ => amount_bar m c 0 d, Finset.sum_const, Finset.card_univ, Fintype.card_bool, smul_eq_mul]
theorem expect_one {g : GSem nD τ sig} {r : ℕ} (h : (ringRd m).duties g r = {false}) (ha : (ringRd m).amount g r false = N) :
    (ringRd m).expect g r = N := by
  unfold Schedule.expect Schedule.amountOf; rw [h, Finset.sum_singleton, ha]

/-- What a round of each cell hands to its owner. -/
theorem rest_bar : bigSep ((ringRd m).duties (barCell c) 0 \ ∅) (fun b => (ringRd m).payload (barCell c) 0 b)
    = iprop(landing false (prv c) ∗ landing true (nxt c)) := by
  rw [Finset.sdiff_empty, duties_bar, bigSep_univ_eq_bigSepL [false, true] (by decide) (by decide), bigSepL_cons_cons, bigSepL_singleton,
    payload_bar, payload_bar]
  rfl
theorem rest_one {g : GSem nD τ sig} {r : ℕ} (h : (ringRd m).duties g r = {false}) :
    bigSep ((ringRd m).duties g r \ ∅) (fun b => (ringRd m).payload g r b) = (ringRd m).payload g r false := by
  rw [Finset.sdiff_empty, h, bigSep_singleton]

end Sched

/-! ## What is owed, and the order of the waits -/

/-- A device's twelve sends, in the order it issues them. -/
abbrev Send : Type := Bool × Fin 3 × Fin 2
def order : List Send :=
  [(true, 0, 0), (false, 0, 0), (true, 0, 1), (false, 0, 1), (true, 1, 0), (false, 1, 0), (true, 1, 1), (false, 1, 1),
   (true, 2, 0), (false, 2, 0), (true, 2, 1), (false, 2, 1)]

/-- What device `c` owes the landing cells of its neighbours by the sends of `l`, the first outermost. -/
def owedOf (c : Dev nD) : List Send → CellTallies nD τ sig Unit
  | [] => 0
  | (d, s, j) :: l => owedOf c l + tallyAt (rcvCell d s j (dst d c)) () N
/-- What it owes once `k` sends are issued; before its two barrier signals also those two units. -/
def owed (c : Dev nD) (k : ℕ) : CellTallies nD τ sig Unit := owedOf c (order.drop k)
def owed₁ (c : Dev nD) : CellTallies nD τ sig Unit := owed c 0 + tallyAt (barCell (nxt c)) () 1
def owed₀ (c : Dev nD) : CellTallies nD τ sig Unit := owed₁ c + tallyAt (barCell (prv c)) () 1

def L (g : GSem nD τ sig) : Finset Unit := if g.1.2 = .tc then {()} else ∅
/-- Waits go up: the copies and the send slots, the barrier, then the landing slots round by round. -/
def lvOf : Option CK → ℕ
  | some (.inl ()) => 1
  | some (.inr (.inr (_, s, _))) => 2 + s.val
  | _ => 0
def lv (g : GSem nD τ sig) (_ : Unit) : ℕ := lvOf (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_rcv (d : Bool) (s : Fin 3) (j : Fin 2) (c : Dev nD) (u : Unit) : lv (rcvCell d s j c) u = 2 + s.val := by
  show lvOf (kindOf (.dma (rcvS d s j))) = _; rw [kindOf_rcv]; rfl

theorem owedOf_pos {c : Dev nD} {l : List Send} {g : GSem nD τ sig} {u : Unit} (h : 0 < owedOf c l g u) :
    ∃ x ∈ l, g = rcvCell x.1 x.2.1 x.2.2 (dst x.1 c) := by
  induction l with
  | nil => exact absurd h (Nat.lt_irrefl 0)
  | cons x l ih =>
    obtain ⟨d, s, j⟩ := x
    unfold owedOf at h
    rw [Pi.add_apply, Finsupp.add_apply, tallyAt_apply] at h
    by_cases hg : g = rcvCell d s j (dst d c)
    · exact ⟨_, List.mem_cons_self, hg⟩
    · rw [if_neg (fun h' => hg h'.1)] at h
      obtain ⟨x, hx, e⟩ := ih (by simpa using h)
      exact ⟨x, List.mem_cons_of_mem _ hx, e⟩

/-- A device may wait on a cell that stands below every landing cell it still owes. -/
theorem mayWait (c : Dev nD) (sm : SemLoc sig) (k : ℕ) (h : ∀ x ∈ order.drop k, lvOf (kindOf sm) < 2 + x.2.1.val) :
    (levAts L lv : sProp 𝕄) ⊢ MayWait (c : Thread nD τ) sm () (owed c k) :=
  MayOwe.of_cut (L := L) (lev := lv) (lvOf (kindOf sm)) (fun p hp => by rw [Finset.mem_singleton.mp hp, L_tc]; exact Finset.mem_singleton_self _)
    (fun g u hg => by obtain ⟨x, -, rfl⟩ := owedOf_pos hg; exact Finset.mem_singleton_self _)
    (fun p hp => by rw [Finset.mem_singleton.mp hp]; exact le_rfl)
    (fun g u hg => by obtain ⟨x, hx, rfl⟩ := owedOf_pos hg; rw [lv_rcv]; exact h x hx)

end Cert.RingProof
-- ==== Proof.Rules.lean ====
/-
# The kernel's operations, as rules over the ring's resources

One rule per kind of operation: a load or a store of a slot, a copy into or out of the staging buffer and its wait, a
send round the ring, the wait for a send slot and the wait for a landing slot, the barrier's signals and its wait.
-/
module

public import proofs.«01_k».proof.Proof.Ring

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a kernel program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A program that is done. -/
theorem wp_done (c : Dev nD) {α : Type} {a : α} {Q : α → sProp 𝕄} : Q a ⊢ WP c (.ret a) Q := le_wp_ret _ _ _ a Q

/-! ## The standing records -/

/-- The invariant of every cell of every device, and that each has reached round 0. -/
def records (K : Dev nD × CK → ℕ) : sProp 𝕄 :=
  iprop((bigSep Finset.univ fun ck : Dev nD × CK => cellInv ER (ringRd m) (K ck) (cellAt ck.1 ck.2))
    ∗ bigSep Finset.univ fun ck : Dev nD × CK => reached ER (cellAt ck.1 ck.2) 0)
instance records_persistent (K : Dev nD × CK → ℕ) : BI.Persistent (records m K) := by unfold records; infer_instance

/-- The records and the levels: what every step may use. -/
def ctx (K : Dev nD × CK → ℕ) : sProp 𝕄 := iprop(records m K ∗ levAts L lv)
instance ctx_persistent (K : Dev nD × CK → ℕ) : BI.Persistent (ctx m K) := by unfold ctx; infer_instance

variable (K : Dev nD × CK → ℕ)

theorem inv_at (ck : Dev nD × CK) :
    (bigSep Finset.univ fun ck : Dev nD × CK => (cellInv ER (ringRd m) (K ck) (cellAt ck.1 ck.2) : sProp 𝕄))
      ⊢ cellInv ER (ringRd m) (K ck) (cellAt ck.1 ck.2) :=
  bigSep_elim (Finset.mem_univ ck)
theorem reached_at (ck : Dev nD × CK) :
    (bigSep Finset.univ fun ck : Dev nD × CK => (reached ER (cellAt ck.1 ck.2) 0 : sProp 𝕄)) ⊢ reached ER (cellAt ck.1 ck.2) 0 :=
  bigSep_elim (Finset.mem_univ ck)
theorem ctx_inv (c : Dev nD) (k : CK) : ctx m K ⊢ cellInv ER (ringRd m) (K (c, k)) (cellAt c k) := by
  unfold ctx records
  iintro ⟨⟨H, -⟩, -⟩
  iapply (inv_at m K (c, k)) $$ H
theorem ctx_reached (c : Dev nD) (k : CK) : ctx m K ⊢ reached ER (cellAt c k) 0 := by
  unfold ctx records
  iintro ⟨⟨-, H⟩, -⟩
  iapply (reached_at (c, k)) $$ H
theorem ctx_lev : ctx m K ⊢ levAts L lv := by
  unfold ctx; iintro ⟨-, H⟩; iexact H

/-- Device `c` owes its sends from the `k`-th on. -/
def OW (c : Dev nD) (k : ℕ) : sProp 𝕄 := iprop(∃ W, owes (c : Thread nD τ) (owed c k) W)

/-! ## Loads and stores -/

section Mem
variable {c : Dev nD} {cs : CoreSpace} {s : Shape} {e : EltTy} {ms : Memref sig .tc cs s e} {r : Rect s} {hr : ∀ a, r.stride a = 1}
variable {α : Type}

/-- A load of an owned slice answers what it is owned at. -/
theorem wp_load_owns {Q : α → sProp 𝕄} {hl : ms.view.LoadsAt r.toLoadRect} {k : (r.shape.Idx → Elt F e) → Prog (TpuEff nD τ sig (Elt F) Λ₀ .tc) α}
    {q : PosShare TreeShare} {X : r.shape.Idx → Elt F e} :
    owns (c : Thread nD τ) (ms.slice r hr) q X
      ⊢ iprop((owns (c : Thread nD τ) (ms.slice r hr) q X -∗ WP c (k X) Q) -∗ WP c (.op (.load ms r.toLoadRect hl) k) Q) := by
  unfold owns
  iintro ⟨%f, %hf, H⟩ Hk
  subst hf
  iapply (wp_load_rect 𝒱₀ (c : Thread nD τ) none Set.univ (m := ms) (r := r) (hl := hl) (S := (ms.access r).set) (Finset.Subset.refl _)) $$ H
  iintro H
  iapply Hk
  iexists f
  isplitr; · ipureintro; rfl
  iexact H

/-- A store to an owned slice leaves it owned at what was stored. -/
theorem wp_store_owns {Q : α → sProp 𝕄} {w : r.shape.Idx → Elt F e} {hx : (ms.access r).Stores Finset.univ}
    {hm : (Finset.univ : Finset r.shape.Idx) = Finset.univ ∨ ∀ a, r.stride a = 1}
    {k : PUnit → Prog (TpuEff nD τ sig (Elt F) Λ₀ .tc) α} {X : r.shape.Idx → Elt F e} :
    owns (c : Thread nD τ) (ms.slice r hr) fullShare X
      ⊢ iprop((owns (c : Thread nD τ) (ms.slice r hr) fullShare w -∗ WP c (k ⟨⟩) Q)
          -∗ WP c (.op (.store ms r w Finset.univ hx hm) k) Q) := by
  unfold owns
  iintro ⟨%f, %hf, H⟩ Hk
  iapply (wp_store 𝒱₀ (c : Thread nD τ) none Set.univ (m := ms) (r := r) (w := w) (hx := hx) (hm := hm) (S := (ms.access r).set)
    (Finset.Subset.refl _)) $$ H
  iintro H
  iapply Hk
  iexists (ms.access r).write (Elt F) f w Finset.univ
  isplitr; · ipureintro; exact View.read_write_univ _ _
  iexact H

end Mem

/-! ## A slot and the slot without its unit axes -/

/-- Owning a memref, its contents' indices renumbered in row-major order, is owning it without its unit axes. -/
theorem owns_squeeze (c : Dev nD) {sp : Space} {s s' : Shape} {e : EltTy} (ms : Memref sig .tc sp s e) (h : s.Squeezes s')
    (q : PosShare TreeShare) (X : s.Idx → Elt F e) :
    (owns (c : Thread nD τ) ms q X : sProp 𝕄)
      ⊣⊢ owns (c : Thread nD τ) (ms.squeeze s' h) q (fun y => X (Shape.reshapeEquiv h.numel_eq y)) := by
  unfold owns
  constructor
  · iintro ⟨%f, %hf, H⟩
    iexists f
    isplitr; · ipureintro; subst hf; rfl
    ihave H := (Entails.of_eq (congrArg (fun S => (ms.view.loc (c : Thread nD τ) ↦[S]{q} f : sProp 𝕄))
      (View.set_reshape ms.view h.numel_eq).symm)) $$ H
    iexact H
  · iintro ⟨%f, %hf, H⟩
    iexists f
    isplitr
    · ipureintro
      funext i
      have := congrFun hf ((Shape.reshapeEquiv h.numel_eq).symm i)
      simp only [Equiv.apply_symm_apply] at this
      rw [← this]
      show ms.view.read (Elt F) f i = ms.view.read (Elt F) f (Shape.reshapeEquiv h.numel_eq ((Shape.reshapeEquiv h.numel_eq).symm i))
      rw [Equiv.apply_symm_apply]
    ihave H := (Entails.of_eq (congrArg (fun S => (ms.view.loc (c : Thread nD τ) ↦[S]{q} f : sProp 𝕄))
      (View.set_reshape ms.view h.numel_eq))) $$ H
    iexact H

/-! ## Sends round the ring -/

/-- The send slot of a round, and the slot's use that round is. -/
abbrev qOf (s : Fin 3) : Fin 2 := match s with | 0 => 0 | 1 => 1 | 2 => 0
abbrev uOf (s : Fin 3) : ℕ := match s with | 0 => 0 | 1 => 0 | 2 => 1

/-- What a send spends besides its slots: its two duties' tokens, and that the send slot has reached the round's use. -/
def sendKit (d : Bool) (s : Fin 3) (j : Fin 2) (c : Dev nD) : sProp 𝕄 :=
  iprop(dutyTok ER (sndCell d (qOf s) j c) (uOf s) false ∗ dutyTok ER (rcvCell d s j (dst d c)) 0 false)

/-- A landing slot of the neighbour that device `c` sends to, at any contents. -/
def landAny (d : Bool) (s : Fin 3) (j : Fin 2) (c : Dev nD) : sProp 𝕄 :=
  iprop(∃ X, owns (dst d c : Thread nD τ) (rcvSlot d s j) fullShare (X : Vec F S1x1x512x1024 .bf16))

/-- The credit a send leaves with its sender. -/
def sndCred (d : Bool) (q j : Fin 2) (c : Dev nD) : sProp 𝕄 := cred (tallyAt (sndCell d q j c) () N)

section Send
variable {α : Type} {k : PUnit → Prog (TpuEff nD τ sig (Elt F) Λ₀ .tc) α}

theorem duty_snd_use (c : Dev nD) (d : Bool) (s : Fin 3) (j : Fin 2) :
    false ∈ (ringRd m).duties (sndCell d (qOf s) j c) (uOf s) := by
  fin_cases s
  · rw [show uOf ⟨0, _⟩ = 0 from rfl, duties_snd]; exact Finset.mem_singleton_self _
  · rw [show uOf ⟨1, _⟩ = 0 from rfl, duties_snd]; exact Finset.mem_singleton_self _
  · exact (duties_snd1 m c d j).symm ▸ Finset.mem_singleton_self _

/-- The send of round `s`, the `n`-th in order: the send slot, holding the round's contents, goes to the neighbour's landing
    slot. -/
theorem wp_send_ring {Q : α → sProp 𝕄} (c n : Dev nD) (d : Bool) (s : Fin 3) (j : Fin 2) (i : ℕ) {srcm : Memref sig .tc .vmem S512x1024 .bf16}
    {dstm : Memref sig (Dev.tc n : Thread nD τ).2.kind .vmem S512x1024 .bf16} {sS sR : SemLoc sig}
    {hsc : dstm.view.ref.isScScratch = false} {hsrc : srcm.view.WordExact} {hdst : dstm.view.WordExact}
    {hsem : DmaTarget.Typed .vmem sR (.remote (Dev.tc n : Thread nD τ) dstm sS hsc)}
    (hn : n = dst d c) (e₁ : srcm = sndQ d (qOf s) j) (e₂ : dstm = rcvQ d s j)
    (e₃ : sS = .dma (sndS d (qOf s) j)) (e₄ : sR = .dma (rcvS d s j)) (hi : order.drop i = (d, s, j) :: order.drop (i + 1)) :
    iprop(ctx m K ∗ owns (c : Thread nD τ) (sndSlot d (qOf s) j) fullShare (sent m d s j c) ∗ landAny d s j c
        ∗ OW c i ∗ sendKit d s j c ∗ reached ER (sndCell d (qOf s) j c) (uOf s))
      ⊢ iprop(((sndCred d (qOf s) j c ∗ OW c (i + 1)) -∗ WP c (k ⟨⟩) Q)
          -∗ WP c (.op (.enqueueDma srcm (.remote (Dev.tc n : Thread nD τ) dstm sS hsc) sR hsrc hdst hsem) k) Q) := by
  subst hn e₁ e₂ e₃ e₄
  iintro ⟨#HC, Hs, Hd, HO, Hkit, #Hreach⟩ Hk
  unfold landAny OW sendKit sndCred
  icases Hd with ⟨%X, Hd⟩
  icases HO with ⟨%W, HO⟩
  icases Hkit with ⟨Ht₁, Ht₂⟩
  ihave Hs := (owns_squeeze c (sndSlot d (qOf s) j) squeezes_S1x1x512x1024_S512x1024 fullShare _).1 $$ Hs
  ihave Hd := (owns_squeeze (dst d c) (rcvSlot d s j) squeezes_S1x1x512x1024_S512x1024 fullShare _).1 $$ Hd
  unfold owns
  icases Hs with ⟨%fs, %hfs, Hs⟩
  icases Hd with ⟨%fd, -, Hd⟩
  iapply (Rounds.wp_send_pointsTo 𝒱₀ ER (ringRd m) (c : Thread nD τ) none (κ₁ := K (c, .inr (.inl (d, qOf s, j))))
    (κ₂ := K (dst d c, .inr (.inr (d, s, j)))) (O₀ := owed c i) (r₁ := uOf s) (r₂ := 0) (d₁ := false) (d₂ := false) (fs := fs) (fd := fd)
    (duty_snd_use m c d s j)
    (by rw [duties_rcv]; exact Finset.mem_singleton_self _)
    () () N (show (rcvQ d s j).view.amount (.dma (rcvS d s j)) = N from credit_rcv d s j) (amount_snd m c d (qOf s) j _ false) (amount_rcv m (dst d c) d s j 0 false) (owed c (i + 1))
    (by unfold owed; rw [hi]; rfl) (W := W)
    (by
      rw [payload_snd]; unfold sndAny
      iintro H
      iexists (sndSlot d (qOf s) j).view.read (Elt F) fs
      iapply (owns_squeeze c (sndSlot d (qOf s) j) squeezes_S1x1x512x1024_S512x1024 fullShare _).2
      iapply (owns_intro (c : Thread nD τ) (sndQ d (qOf s) j) fullShare fs) $$ H)
    (by
      rw [payload_rcv]; unfold rcvAt
      iintro H
      iapply (owns_squeeze (dst d c) (rcvSlot d s j) squeezes_S1x1x512x1024_S512x1024 fullShare _).2
      rw [src_dst, ← hfs]
      unfold owns
      iexists (rcvQ d s j).view.write (Elt F) fd ((sndQ d (qOf s) j).view.read (Elt F) fs) Finset.univ
      isplitr; · ipureintro; exact View.read_write_univ _ _
      iexact H)) $$ [Hs Hd HO Ht₁ Ht₂]
  · isplitr; · iapply (ctx_inv m K c (.inr (.inl (d, qOf s, j)))) $$ HC
    isplitr; · iapply (ctx_inv m K (dst d c) (.inr (.inr (d, s, j)))) $$ HC
    isplitl [Hs]; · iexact Hs
    isplitl [Hd]; · iexact Hd
    isplitl [HO]; · iexact HO
    isplitl [Ht₁]; · iexact Ht₁
    isplitr; · iexact Hreach
    isplitl [Ht₂]; · iexact Ht₂
    iapply (ctx_reached m K (dst d c) (.inr (.inr (d, s, j)))) $$ HC
  iintro ⟨Hc, HO⟩
  iapply Hk
  isplitl [Hc]; · iexact Hc
  iexists W; iexact HO

/-- The position of a device on its send slot, and on its landing slot with that slot's credit. -/
def sndPos (d : Bool) (q j : Fin 2) (c : Dev nD) (r : ℕ) : sProp 𝕄 := atPos ER (sndCell d q j c) r ∅ 0
def rcvPos (d : Bool) (s : Fin 3) (j : Fin 2) (c : Dev nD) (r : ℕ) : sProp 𝕄 := atPos ER (rcvCell d s j c) r ∅ 0
def rcvCred (d : Bool) (s : Fin 3) (j : Fin 2) (c : Dev nD) : sProp 𝕄 := cred (tallyAt (rcvCell d s j c) () N)

/-- The wait for a slot's transfer, at a cell one of whose rounds has one duty. -/
theorem wp_wait_cell {Q : α → sProp 𝕄} (c : Dev nD) (κ : CK) (i r : ℕ) {x : DmaSem sig} (hx : semOf κ = .dma x) {y : DmaSem sig} {srcm dstm : Memref sig .tc .vmem S512x1024 .bf16}
    {hsrc : srcm.view.WordExact} {hdst : dstm.view.WordExact} (hy : y = x) (hN : dstm.view.dmaCredit = N)
    (hd : (ringRd m).duties (cellAt c κ) r = {false}) (ha : (ringRd m).amount (cellAt c κ) r false = N)
    (hlv : ∀ z ∈ order.drop i, lvOf (some κ) < 2 + z.2.1.val) :
    iprop(ctx m K ∗ cred (tallyAt (cellAt c κ) () N) ∗ OW c i ∗ atPos ER (cellAt c κ) r ∅ 0)
      ⊢ iprop(((OW c i ∗ atPos ER (cellAt c κ) (r + 1) ∅ 0 ∗ reached ER (cellAt c κ) (r + 1) ∗ (ringRd m).payload (cellAt c κ) r false)
            -∗ WP c (k ⟨⟩) Q)
          -∗ WP c (.op (.waitDma2 y srcm dstm hsrc hdst) k) Q) := by
  subst hy
  iintro ⟨#HC, Hc, HO, Hat⟩ Hk
  unfold OW
  icases HO with ⟨%W, HO⟩
  iapply (Rounds.wp_wait_rest_token 𝒱₀ ER (ringRd m) (c : Thread nD τ) none (κ := K (c, κ)) (sm := semOf κ)
      (hx.symm ▸ wpE_waitDma2_eq 𝒱₀ (c : Thread nD τ) none Set.univ) (Set.mem_univ _) () (O := owed c i) (W := W) (R := r) (m := 0) (T := ∅)
      (by rw [Nat.zero_add, hN]; exact (expect_one m hd ha).symm)) $$ [Hc HO Hat]
  · isplitr; · iapply (ctx_inv m K c κ) $$ HC
    isplitl [Hc]; · rw [hN]; iexact Hc
    isplitl [HO]; · iexact HO
    isplitr
    · iapply (mayWait c (semOf κ) i (by rw [kindOf_semOf]; exact hlv))
      iapply (ctx_lev m K) $$ HC
    iexact Hat
  iintro ⟨HO, Hat, Hr, Hpay⟩
  iapply Hk
  isplitl [HO]; · iexists _; iexact HO
  isplitl [Hat]; · iexact Hat
  isplitl [Hr]; · iexact Hr
  iapply (Entails.of_eq (rest_one m hd)); iexact Hpay

/-- The wait for the send slot of use `u`: the slot comes back. -/
theorem wp_wait_snd {Q : α → sProp 𝕄} (c : Dev nD) (d : Bool) (s : Fin 3) (j : Fin 2) (i : ℕ) {y : DmaSem sig} {srcm dstm : Memref sig .tc .vmem S512x1024 .bf16}
    {hsrc : srcm.view.WordExact} {hdst : dstm.view.WordExact} (hy : y = sndS d (qOf s) j) (hd : dstm = sndQ d (qOf s) j) :
    iprop(ctx m K ∗ sndCred d (qOf s) j c ∗ OW c i ∗ sndPos d (qOf s) j c (uOf s))
      ⊢ iprop(((OW c i ∗ sndPos d (qOf s) j c (uOf s + 1) ∗ reached ER (sndCell d (qOf s) j c) (uOf s + 1) ∗ sndAny d (qOf s) j c)
            -∗ WP c (k ⟨⟩) Q)
          -∗ WP c (.op (.waitDma2 y srcm dstm hsrc hdst) k) Q) := by
  subst hd
  have h := wp_wait_cell m K (Q := Q) (k := k) (hsrc := hsrc) (hdst := hdst) c (.inr (.inl (d, qOf s, j))) i (uOf s) rfl hy (credit_snd d (qOf s) j)
    (by
      fin_cases s
      · exact duties_snd m c d 0 j
      · exact duties_snd m c d 1 j
      · exact duties_snd1 m c d j)
    (amount_snd m c d (qOf s) j _ false) (fun z _ => Nat.lt_of_lt_of_le Nat.two_pos (Nat.le_add_right 2 _))
  rw [payload_snd] at h
  exact h

/-- The wait for a landing slot: it comes with what its round brings. -/
theorem wp_wait_rcv {Q : α → sProp 𝕄} (c : Dev nD) (d : Bool) (s : Fin 3) (j : Fin 2) (i : ℕ) {y : DmaSem sig} {srcm dstm : Memref sig .tc .vmem S512x1024 .bf16}
    {hsrc : srcm.view.WordExact} {hdst : dstm.view.WordExact} (hy : y = rcvS d s j) (hd : dstm = rcvQ d s j)
    (hlv : ∀ z ∈ order.drop i, s.val < z.2.1.val) :
    iprop(ctx m K ∗ rcvCred d s j c ∗ OW c i ∗ rcvPos d s j c 0)
      ⊢ iprop(((OW c i ∗ rcvPos d s j c 1 ∗ rcvAt m d s j c) -∗ WP c (k ⟨⟩) Q)
          -∗ WP c (.op (.waitDma2 y srcm dstm hsrc hdst) k) Q) := by
  subst hd
  unfold rcvCred rcvPos
  iintro H Hk
  have h := wp_wait_cell m K (Q := Q) (k := k) (hsrc := hsrc) (hdst := hdst) c (.inr (.inr (d, s, j))) i 0 rfl hy (credit_rcv d s j)
    (duties_rcv m c d s j) (amount_rcv m c d s j _ false) (fun z hz => Nat.add_lt_add_left (hlv z hz) 2)
  rw [payload_rcv] at h
  iapply h $$ H
  iintro ⟨HO, Hat, -, Hpay⟩
  iapply Hk
  isplitl [HO]; · iexact HO
  isplitl [Hat]; · iexact Hat
  iexact Hpay

/-- A send slot in flight, and back; a landing slot awaited, and landed. -/
def sndOut (d : Bool) (s : Fin 3) (j : Fin 2) (c : Dev nD) : sProp 𝕄 := iprop(sndCred d (qOf s) j c ∗ sndPos d (qOf s) j c (uOf s))
def sndBack (d : Bool) (s : Fin 3) (j : Fin 2) (c : Dev nD) : sProp 𝕄 :=
  iprop(sndPos d (qOf s) j c (uOf s + 1) ∗ reached ER (sndCell d (qOf s) j c) (uOf s + 1) ∗ sndAny d (qOf s) j c)
def rcvWait (d : Bool) (s : Fin 3) (j : Fin 2) (c : Dev nD) : sProp 𝕄 := iprop(rcvCred d s j c ∗ rcvPos d s j c 0)
def rcvDone (d : Bool) (s : Fin 3) (j : Fin 2) (c : Dev nD) : sProp 𝕄 := iprop(rcvPos d s j c 1 ∗ rcvAt m d s j c)
/-- What a send needs besides its contents: the neighbour's landing slot and the duties' tokens. -/
def sendGo (d : Bool) (s : Fin 3) (j : Fin 2) (c : Dev nD) : sProp 𝕄 := iprop(landAny d s j c ∗ sendKit d s j c)

theorem wp_back {Q : α → sProp 𝕄} (c : Dev nD) (d : Bool) (s : Fin 3) (j : Fin 2) (i : ℕ) {y : DmaSem sig} {srcm dstm : Memref sig .tc .vmem S512x1024 .bf16}
    {hsrc : srcm.view.WordExact} {hdst : dstm.view.WordExact} (hy : y = sndS d (qOf s) j) (hd : dstm = sndQ d (qOf s) j) :
    iprop(ctx m K ∗ sndOut d s j c ∗ OW c i)
      ⊢ iprop(((OW c i ∗ sndBack d s j c) -∗ WP c (k ⟨⟩) Q) -∗ WP c (.op (.waitDma2 y srcm dstm hsrc hdst) k) Q) := by
  unfold sndOut sndBack
  iintro ⟨#HC, ⟨Hc, Hp⟩, HO⟩ Hk
  iapply (wp_wait_snd m K c d s j i hy hd) $$ [Hc Hp HO]
  · isplitr; · iexact HC
    isplitl [Hc]; · iexact Hc
    isplitl [HO] <;> iassumption
  iexact Hk
theorem wp_land {Q : α → sProp 𝕄} (c : Dev nD) (d : Bool) (s : Fin 3) (j : Fin 2) (i : ℕ) {y : DmaSem sig} {srcm dstm : Memref sig .tc .vmem S512x1024 .bf16}
    {hsrc : srcm.view.WordExact} {hdst : dstm.view.WordExact} (hy : y = rcvS d s j) (hd : dstm = rcvQ d s j)
    (hlv : ∀ z ∈ order.drop i, s.val < z.2.1.val) :
    iprop(ctx m K ∗ rcvWait d s j c ∗ OW c i)
      ⊢ iprop(((OW c i ∗ rcvDone m d s j c) -∗ WP c (k ⟨⟩) Q) -∗ WP c (.op (.waitDma2 y srcm dstm hsrc hdst) k) Q) := by
  unfold rcvWait rcvDone
  iintro ⟨#HC, ⟨Hc, Hp⟩, HO⟩ Hk
  iapply (wp_wait_rcv m K c d s j i hy hd hlv) $$ [Hc Hp HO]
  · isplitr; · iexact HC
    isplitl [Hc]; · iexact Hc
    isplitl [HO] <;> iassumption
  iexact Hk
/-- A send, its position kept beside its credit. -/
theorem wp_go {Q : α → sProp 𝕄} (c n : Dev nD) (d : Bool) (s : Fin 3) (j : Fin 2) (i : ℕ) {srcm : Memref sig .tc .vmem S512x1024 .bf16}
    {dstm : Memref sig (Dev.tc n : Thread nD τ).2.kind .vmem S512x1024 .bf16} {sS sR : SemLoc sig}
    {hsc : dstm.view.ref.isScScratch = false} {hsrc : srcm.view.WordExact} {hdst : dstm.view.WordExact}
    {hsem : DmaTarget.Typed .vmem sR (.remote (Dev.tc n : Thread nD τ) dstm sS hsc)}
    (hn : n = dst d c) (e₁ : srcm = sndQ d (qOf s) j) (e₂ : dstm = rcvQ d s j)
    (e₃ : sS = .dma (sndS d (qOf s) j)) (e₄ : sR = .dma (rcvS d s j)) (hi : order.drop i = (d, s, j) :: order.drop (i + 1)) :
    iprop(ctx m K ∗ owns (c : Thread nD τ) (sndSlot d (qOf s) j) fullShare (sent m d s j c) ∗ sendGo d s j c
        ∗ OW c i ∗ sndPos d (qOf s) j c (uOf s) ∗ reached ER (sndCell d (qOf s) j c) (uOf s))
      ⊢ iprop(((sndOut d s j c ∗ OW c (i + 1)) -∗ WP c (k ⟨⟩) Q)
          -∗ WP c (.op (.enqueueDma srcm (.remote (Dev.tc n : Thread nD τ) dstm sS hsc) sR hsrc hdst hsem) k) Q) := by
  unfold sendGo sndOut
  iintro ⟨#HC, Hs, ⟨Hl, Hkit⟩, HO, Hp, #Hr⟩ Hk
  iapply (wp_send_ring m K c n d s j i hn e₁ e₂ e₃ e₄ hi) $$ [Hs Hl HO Hkit]
  · isplitr; · iexact HC
    isplitl [Hs]; · iexact Hs
    isplitl [Hl]; · iexact Hl
    isplitl [HO]; · iexact HO
    isplitl [Hkit]; · iexact Hkit
    iexact Hr
  iintro ⟨Hc, HO⟩
  iapply Hk
  isplitl [Hc Hp]
  · isplitl [Hc] <;> iassumption
  iexact HO

end Send

/-! ## The copies into and out of the staging buffer -/

/-- The share of `x` that copy `k` reads. -/
def qx : Fin 4 → PosShare TreeShare
  | 0 => fullShare.left.left
  | 1 => fullShare.left.right
  | 2 => fullShare.right.left
  | 3 => fullShare.right.right

/-- Row block `k` of the staging buffer, at any contents and once copied in; the rows of `x` its copy reads. -/
def stAny (c : Dev nD) (k : Fin 4) : sProp 𝕄 :=
  iprop(∃ f : Buf (Elt F) (stM.view.loc (c : Thread nD τ)), stM.view.loc (c : Thread nD τ) ↦[(stQ k).view.set]{fullShare} f)
def stAt (c : Dev nD) (k : Fin 4) : sProp 𝕄 := iprop(stM.view.loc (c : Thread nD τ) ↦[(stQ k).view.set]{fullShare} stageF m c)
def xAt (c : Dev nD) (k : Fin 4) : sProp 𝕄 :=
  iprop(xM.view.loc (c : Thread nD τ) ↦[(xBlk c k).view.set]{qx k} m ((c : Thread nD τ).loc main_arg0))
/-- A semaphore of the copies at rest. -/
def stSem (c : Dev nD) (k : Fin 4) : sProp 𝕄 := semVal ((c : Thread nD τ), SemLoc.dma (stS k)) 0

/-- What copying a row block credits, in; and a quarter of the result, out. -/
abbrev Nin : ℕ := (stQ 0).view.dmaCredit
abbrev Nout : ℕ := (oBlk 0 true).view.dmaCredit

/-- The semaphore that the quarter `(d, h)` of the result leaves on. -/
abbrev oIx (d : Bool) (h : Fin 2) : Fin 4 := match d, h with | true, 0 => 0 | true, 1 => 1 | false, 0 => 2 | false, 1 => 3

/-- A quarter of the result, at any contents and written; the staged half block it is copied from. -/
def oAny (c : Dev nD) (d : Bool) (h : Fin 2) : sProp 𝕄 :=
  iprop(∃ f : Buf (Elt F) (oM.view.loc (c : Thread nD τ)), oM.view.loc (c : Thread nD τ) ↦[(oBlk h d).view.set]{fullShare} f)
def oAt (c : Dev nD) (d : Bool) (h : Fin 2) : sProp 𝕄 :=
  iprop(oM.view.loc (c : Thread nD τ) ↦[(oBlk h d).view.set]{fullShare} outF m c)
def hfAny (c : Dev nD) (k : Fin 4) (h : Fin 2) : sProp 𝕄 :=
  iprop(∃ X, owns (c : Thread nD τ) (hfSlot k h) fullShare (X : Vec F S1x512x1024 .f32))

/-- The copies in flight. -/
def inFl (c : Dev nD) (k : Fin 4) : sProp 𝕄 :=
  Transfers.Flight (countersEmb : UEmb Counters 𝕄) (c : Thread nD τ) (.dma (stS k)) () Nin iprop(stAt m c k ∗ xAt m c k)
def outFl (c : Dev nD) (d : Bool) (h : Fin 2) : sProp 𝕄 :=
  Transfers.Flight (countersEmb : UEmb Counters 𝕄) (c : Thread nD τ) (.dma (stS (oIx d h))) () Nout iprop(oAt m c d h ∗ hfAny c (first d) h)

/-! ### Reading the staging buffer and `w` -/

theorem st_set (k : Fin 4) : (stQ k).view.set = (stR k).set := by
  rw [show (stQ k).view.set = (stSlot k).view.set from View.set_reshape _ _]
  exact View.set_slice_whole _ _
theorem hf_set (k : Fin 4) (h : Fin 2) : (hfSlot k h).view.set = (hfR k h).set := View.set_slice_whole _ _
theorem mem_stR (k : Fin 4) (i : S4x1024x1024.Idx) : i ∈ (stR k).set ↔ (i 0).val = k.val := by
  rw [Rect.mem_set_unit, Fin.forall_fin_succ, Fin.forall_fin_two]
  have h1 : (i 1).val < 1024 := (i 1).2
  have h2 : (i 2).val < 1024 := (i 2).2
  show (k.val ≤ (i 0).val ∧ (i 0).val < k.val + 1) ∧ (0 ≤ (i 1).val ∧ (i 1).val < 0 + 1024) ∧ (0 ≤ (i 2).val ∧ (i 2).val < 0 + 1024) ↔ _
  omega
theorem mem_hfR (k : Fin 4) (h : Fin 2) (i : S4x1024x1024.Idx) :
    i ∈ (hfR k h).set ↔ (i 0).val = k.val ∧ half h ≤ (i 1).val ∧ (i 1).val < half h + 512 := by
  rw [Rect.mem_set_unit, Fin.forall_fin_succ, Fin.forall_fin_two]
  have h2 : (i 2).val < 1024 := (i 2).2
  show (k.val ≤ (i 0).val ∧ (i 0).val < k.val + 1) ∧ (half h ≤ (i 1).val ∧ (i 1).val < half h + 512) ∧ (0 ≤ (i 2).val ∧ (i 2).val < 0 + 1024) ↔ _
  omega
theorem hf_sub_st (k : Fin 4) (h : Fin 2) : (hfR k h).set ⊆ (stR k).set := fun i hi => (mem_stR k i).2 ((mem_hfR k h i).1 hi).1

section Reads
variable {α : Type} (c : Dev nD)

/-- A load of a half block, or of a whole row block, of the staging buffer. -/
theorem wp_load_hf {Q : α → sProp 𝕄} (k : Fin 4) (h : Fin 2) {off : Fin 3 → Nat} {inb : ∀ a, off a + S1x512x1024.size a ≤ S4x1024x1024.size a}
    {hl : stM.view.LoadsAt (Rect.unit (s := S4x1024x1024) off S1x512x1024.size inb).toLoadRect}
    {K : Vec F S1x512x1024 .f32 → Prog (TpuEff nD τ sig (Elt F) Λ₀ .tc) α} (ho : off = ![k.val, half h, 0]) :
    stAt m c k ⊢ iprop((stAt m c k -∗ WP c (K (Ah m c k h)) Q)
      -∗ WP c (.op (.load stM (Rect.unit (s := S4x1024x1024) off S1x512x1024.size inb).toLoadRect hl) K) Q) := by
  subst ho
  exact wp_load_rect 𝒱₀ (c : Thread nD τ) none Set.univ (m := stM) (r := hfR k h) (hl := hl) (k := K)
    (by rw [st_set, show (stM.access (hfR k h)).set = (hfR k h).set from View.set_slice_whole _ _]; exact hf_sub_st k h)
theorem wp_load_st {Q : α → sProp 𝕄} (k : Fin 4) {off : Fin 3 → Nat} {inb : ∀ a, off a + S1x1024x1024.size a ≤ S4x1024x1024.size a}
    {hl : stM.view.LoadsAt (Rect.unit (s := S4x1024x1024) off S1x1024x1024.size inb).toLoadRect}
    {K : Vec F S1x1024x1024 .f32 → Prog (TpuEff nD τ sig (Elt F) Λ₀ .tc) α} (ho : off = ![k.val, 0, 0]) :
    stAt m c k ⊢ iprop((stAt m c k -∗ WP c (K (Ab m c k)) Q)
      -∗ WP c (.op (.load stM (Rect.unit (s := S4x1024x1024) off S1x1024x1024.size inb).toLoadRect hl) K) Q) := by
  subst ho
  exact wp_load_rect 𝒱₀ (c : Thread nD τ) none Set.univ (m := stM) (r := stR k) (hl := hl) (k := K)
    (by rw [st_set, show (stM.access (stR k)).set = (stR k).set from View.set_slice_whole _ _])

/-- `w` in eight bits, as the kernel keeps it; a load of one direction's columns. -/
def wqAt : sProp 𝕄 := iprop(wqM.view.loc (c : Thread nD τ) ↦{fullShare} wqF m c)
theorem wp_load_wq {Q : α → sProp 𝕄} (d : Bool) {off : Fin 2 → Nat} {inb : ∀ a, off a + S1024x1024.size a ≤ S1024x2048.size a}
    {hl : wqM.view.LoadsAt (Rect.unit (s := S1024x2048) off S1024x1024.size inb).toLoadRect}
    {K : Vec F S1024x1024 .fp8e4m3 → Prog (TpuEff nD τ sig (Elt F) Λ₀ .tc) α} (ho : off = ![0, col d]) :
    wqAt m c ⊢ iprop((wqAt m c -∗ WP c (K (Bw m c d)) Q)
      -∗ WP c (.op (.load wqM (Rect.unit (s := S1024x2048) off S1024x1024.size inb).toLoadRect hl) K) Q) := by
  subst ho
  exact wp_load_rect 𝒱₀ (c : Thread nD τ) none Set.univ (m := wqM) (r := wqR d) (hl := hl) (k := K) (Finset.subset_univ _)

/-! ### The whole of a buffer, loaded and stored -/

abbrev wAllR (inb : ∀ a, (![0, 0] : Fin 2 → Nat) a + S1024x2048.size a ≤ S1024x2048.size a) : Rect S1024x2048 :=
  Rect.unit (s := S1024x2048) ![0, 0] S1024x2048.size inb
theorem wAllR_emb (inb) (i : S1024x2048.Idx) : (wAllR inb).emb i = i :=
  funext fun a => Fin.ext (by fin_cases a <;> (show 0 + 1 * _ = _; rw [Nat.zero_add, Nat.one_mul]))

theorem wp_load_w {Q : α → sProp 𝕄} {inb} {hl : wM.view.LoadsAt (wAllR inb).toLoadRect} (f : Vec F S1024x2048 .f32)
    {K : Vec F S1024x2048 .f32 → Prog (TpuEff nD τ sig (Elt F) Λ₀ .tc) α} :
    iprop(wM.view.loc (c : Thread nD τ) ↦{fullShare} f) ⊢ iprop(((wM.view.loc (c : Thread nD τ) ↦{fullShare} f) -∗ WP c (K f) Q)
      -∗ WP c (.op (.load wM (wAllR inb).toLoadRect hl) K) Q) := by
  have h := wp_load_rect (defs := defs₀ (F := F)) (Q := Q) 𝒱₀ (c : Thread nD τ) none (Γ := []) Set.univ (m := wM) (r := wAllR inb) (hl := hl) (k := K) (q := fullShare) (f := f) (Finset.subset_univ _)
  rwa [show (wM.access (wAllR inb)).read (Elt F) f = f from funext fun i => congrArg f (wAllR_emb inb i)] at h

theorem wp_store_wq {Q : α → sProp 𝕄} {inb} {w : Vec F S1024x2048 .fp8e4m3} {hx : (wqM.access (wAllR inb)).Stores Finset.univ}
    {hm : (Finset.univ : Finset (wAllR inb).shape.Idx) = Finset.univ ∨ ∀ a, (wAllR inb).stride a = 1} (f : Vec F S1024x2048 .fp8e4m3)
    {K : PUnit → Prog (TpuEff nD τ sig (Elt F) Λ₀ .tc) α} :
    iprop(wqM.view.loc (c : Thread nD τ) ↦{fullShare} f) ⊢ iprop(((wqM.view.loc (c : Thread nD τ) ↦{fullShare} w) -∗ WP c (K ⟨⟩) Q)
      -∗ WP c (.op (.store wqM (wAllR inb) w Finset.univ hx hm) K) Q) := by
  have h := wp_store (defs := defs₀ (F := F)) (Q := Q) 𝒱₀ (c : Thread nD τ) none (Γ := []) Set.univ (m := wqM) (r := wAllR inb) (w := w) (Mk := Finset.univ) (hx := hx) (hm := hm)
    (k := K) (f := f) (S := Finset.univ) (Finset.subset_univ _)
  rwa [show (wqM.access (wAllR inb)).write (Elt F) f w Finset.univ = w from funext fun i => by
    have e : (wqM.access (wAllR inb)).emb i = i := wAllR_emb inb i
    conv_lhs => rw [← e]
    exact View.write_emb_of_mem _ _ (Finset.mem_univ i)] at h
theorem wp_load_wqAny {Q : α → sProp 𝕄} {inb} {hl : wqM.view.LoadsAt (wAllR inb).toLoadRect} (f : Vec F S1024x2048 .fp8e4m3)
    {K : Vec F S1024x2048 .fp8e4m3 → Prog (TpuEff nD τ sig (Elt F) Λ₀ .tc) α} :
    iprop(wqM.view.loc (c : Thread nD τ) ↦{fullShare} f) ⊢ iprop(((wqM.view.loc (c : Thread nD τ) ↦{fullShare} f)
        -∗ WP c (K ((wqM.access (wAllR inb)).read (Elt F) f)) Q)
      -∗ WP c (.op (.load wqM (wAllR inb).toLoadRect hl) K) Q) :=
  wp_load_rect 𝒱₀ (c : Thread nD τ) none Set.univ (m := wqM) (r := wAllR inb) (hl := hl) (k := K) (Finset.subset_univ _)

/-! ### The slots, loaded and stored -/

theorem wp_load_snd {Q : α → sProp 𝕄} (d : Bool) (q j : Fin 2) {ms : Memref sig .tc .vmem S2x2x512x1024 .bf16} {off : Fin 4 → Nat}
    {inb : ∀ a, off a + S1x1x512x1024.size a ≤ S2x2x512x1024.size a} {X : Vec F S1x1x512x1024 .bf16}
    {hl : ms.view.LoadsAt (Rect.unit (s := S2x2x512x1024) off S1x1x512x1024.size inb).toLoadRect}
    {K : Vec F S1x1x512x1024 .bf16 → Prog (TpuEff nD τ sig (Elt F) Λ₀ .tc) α} (hms : ms = sndM d) (ho : off = ![q.val, j.val, 0, 0]) :
    owns (c : Thread nD τ) (sndSlot d q j) fullShare X ⊢ iprop((owns (c : Thread nD τ) (sndSlot d q j) fullShare X -∗ WP c (K X) Q)
      -∗ WP c (.op (.load ms (Rect.unit (s := S2x2x512x1024) off S1x1x512x1024.size inb).toLoadRect hl) K) Q) := by
  subst hms ho
  exact wp_load_owns (ms := sndM d) (r := sndR q j) (hl := hl) (k := K)
theorem wp_store_snd {Q : α → sProp 𝕄} (d : Bool) (q j : Fin 2) {ms : Memref sig .tc .vmem S2x2x512x1024 .bf16} {off : Fin 4 → Nat}
    {inb : ∀ a, off a + S1x1x512x1024.size a ≤ S2x2x512x1024.size a} {w : Vec F S1x1x512x1024 .bf16}
    {hx : (ms.access (Rect.unit (s := S2x2x512x1024) off S1x1x512x1024.size inb)).Stores Finset.univ} {hm}
    {K : PUnit → Prog (TpuEff nD τ sig (Elt F) Λ₀ .tc) α} {X : Vec F S1x1x512x1024 .bf16} (hms : ms = sndM d) (ho : off = ![q.val, j.val, 0, 0])
    (Y : Vec F S1x1x512x1024 .bf16) (hY : w = Y) :
    owns (c : Thread nD τ) (sndSlot d q j) fullShare X ⊢ iprop((owns (c : Thread nD τ) (sndSlot d q j) fullShare Y -∗ WP c (K ⟨⟩) Q)
      -∗ WP c (.op (.store ms (Rect.unit (s := S2x2x512x1024) off S1x1x512x1024.size inb) w Finset.univ hx hm) K) Q) := by
  subst hms ho hY
  exact wp_store_owns (ms := sndM d) (r := sndR q j) (hx := hx) (hm := hm) (k := K)
theorem wp_load_rcv {Q : α → sProp 𝕄} (d : Bool) (s : Fin 3) (j : Fin 2) {ms : Memref sig .tc .vmem S3x2x512x1024 .bf16} {off : Fin 4 → Nat}
    {inb : ∀ a, off a + S1x1x512x1024.size a ≤ S3x2x512x1024.size a}
    {hl : ms.view.LoadsAt (Rect.unit (s := S3x2x512x1024) off S1x1x512x1024.size inb).toLoadRect}
    {K : Vec F S1x1x512x1024 .bf16 → Prog (TpuEff nD τ sig (Elt F) Λ₀ .tc) α} (hms : ms = rcvM d) (ho : off = ![s.val, j.val, 0, 0]) :
    rcvAt m d s j c ⊢ iprop((rcvAt m d s j c -∗ WP c (K (sent m d s j (src d c))) Q)
      -∗ WP c (.op (.load ms (Rect.unit (s := S3x2x512x1024) off S1x1x512x1024.size inb).toLoadRect hl) K) Q) := by
  subst hms ho
  exact wp_load_owns (ms := rcvM d) (r := rcvR s j) (hl := hl) (k := K)
theorem wp_load_hfo {Q : α → sProp 𝕄} (k : Fin 4) (h : Fin 2) {off : Fin 3 → Nat} {inb : ∀ a, off a + S1x512x1024.size a ≤ S4x1024x1024.size a}
    {hl : stM.view.LoadsAt (Rect.unit (s := S4x1024x1024) off S1x512x1024.size inb).toLoadRect} {X : Vec F S1x512x1024 .f32}
    {K : Vec F S1x512x1024 .f32 → Prog (TpuEff nD τ sig (Elt F) Λ₀ .tc) α} (ho : off = ![k.val, half h, 0]) :
    owns (c : Thread nD τ) (hfSlot k h) fullShare X ⊢ iprop((owns (c : Thread nD τ) (hfSlot k h) fullShare X -∗ WP c (K X) Q)
      -∗ WP c (.op (.load stM (Rect.unit (s := S4x1024x1024) off S1x512x1024.size inb).toLoadRect hl) K) Q) := by
  subst ho
  exact wp_load_owns (ms := stM) (r := hfR k h) (hl := hl) (k := K)
theorem wp_store_hf {Q : α → sProp 𝕄} (k : Fin 4) (h : Fin 2) {off : Fin 3 → Nat} {inb : ∀ a, off a + S1x512x1024.size a ≤ S4x1024x1024.size a}
    {hx : (stM.access (Rect.unit (s := S4x1024x1024) off S1x512x1024.size inb)).Stores Finset.univ} {hm} {w X : Vec F S1x512x1024 .f32}
    {K : PUnit → Prog (TpuEff nD τ sig (Elt F) Λ₀ .tc) α} (ho : off = ![k.val, half h, 0])
    (Y : Vec F S1x512x1024 .f32) (hY : w = Y) :
    owns (c : Thread nD τ) (hfSlot k h) fullShare X ⊢ iprop((owns (c : Thread nD τ) (hfSlot k h) fullShare Y -∗ WP c (K ⟨⟩) Q)
      -∗ WP c (.op (.store stM (Rect.unit (s := S4x1024x1024) off S1x512x1024.size inb) w Finset.univ hx hm) K) Q) := by
  subst ho hY
  exact wp_store_owns (ms := stM) (r := hfR k h) (hx := hx) (hm := hm) (k := K)

theorem wp_load_land {Q : α → sProp 𝕄} (d : Bool) (s : Fin 3) (j : Fin 2) {ms : Memref sig .tc .vmem S3x2x512x1024 .bf16} {off : Fin 4 → Nat}
    {inb : ∀ a, off a + S1x1x512x1024.size a ≤ S3x2x512x1024.size a}
    {hl : ms.view.LoadsAt (Rect.unit (s := S3x2x512x1024) off S1x1x512x1024.size inb).toLoadRect}
    {K : Vec F S1x1x512x1024 .bf16 → Prog (TpuEff nD τ sig (Elt F) Λ₀ .tc) α} (hms : ms = rcvM d) (ho : off = ![s.val, j.val, 0, 0]) :
    rcvDone m d s j c ⊢ iprop((rcvDone m d s j c -∗ WP c (K (sent m d s j (src d c))) Q)
      -∗ WP c (.op (.load ms (Rect.unit (s := S3x2x512x1024) off S1x1x512x1024.size inb).toLoadRect hl) K) Q) := by
  unfold rcvDone
  iintro ⟨Hp, H⟩ Hk
  iapply (wp_load_rcv m c d s j hms ho) $$ H
  iintro H
  iapply Hk
  isplitl [Hp] <;> iassumption

/-- A scale factor read. -/
theorem wp_scale {Q : α → sProp 𝕄} (ms : Memref sig .tc .smem S1 .f32) {r : Rect S1} {hw : (ms.access r).Loads} {x : r.shape.Idx}
    (f : Buf (Elt F) (ms.view.loc (c : Thread nD τ))) (v : Elt F .f32) (hv : (ms.access r).read (Elt F) f x = v)
    {K : Elt F .f32 → Prog (TpuEff nD τ sig (Elt F) Λ₀ .tc) α} :
    iprop(ms.view.loc (c : Thread nD τ) ↦{fullShare} f)
      ⊢ iprop(((ms.view.loc (c : Thread nD τ) ↦{fullShare} f) -∗ WP c (K v) Q) -∗ WP c (smemLoadElt ms r hw x K) Q) := by
  subst hv
  exact wp_load_rect 𝒱₀ (c : Thread nD τ) none Set.univ (m := ms) (r := r) (k := fun f => K (f x)) (S := Finset.univ) (Finset.subset_univ _)

end Reads

/-! ### A row block copied in -/

/-- Where element `y` of row block `k`, without its unit axis, stands in the staging buffer. -/
theorem stQ_emb (k : Fin 4) (y : S1024x1024.Idx) : (stQ k).view.emb y = (ix3 k (y 0) (y 1) : S4x1024x1024.Idx) := by
  have e : Shape.reshapeEquiv squeezes_S1x1024x1024_S1024x1024.numel_eq y = (Fin.cons ⟨0, Nat.one_pos⟩ y : S1x1024x1024.Idx) :=
    Shape.reshapeEquiv_cons_one _ y
  show (stR k).emb (Shape.reshapeEquiv squeezes_S1x1024x1024_S1024x1024.numel_eq y) = _
  rw [e]
  funext a
  refine Fin.ext ?_
  fin_cases a
  · show k.val + 1 * 0 = k.val; rw [Nat.mul_zero, Nat.add_zero]
  · show 0 + 1 * (y 0).val = (y 0).val; rw [Nat.zero_add, Nat.one_mul]
  · show 0 + 1 * (y 1).val = (y 1).val; rw [Nat.zero_add, Nat.one_mul]
theorem hfQ_emb (k : Fin 4) (h : Fin 2) (y : S512x1024.Idx) :
    Shape.reshapeEquiv squeezes_S1x512x1024_S512x1024.numel_eq y = (ix3 (0 : Fin 1) (y 0) (y 1) : S1x512x1024.Idx) := by
  have e : Shape.reshapeEquiv squeezes_S1x512x1024_S512x1024.numel_eq y = (Fin.cons ⟨0, Nat.one_pos⟩ y : S1x512x1024.Idx) :=
    Shape.reshapeEquiv_cons_one _ y
  rw [e]
  funext a
  fin_cases a <;> rfl

/-- The staging buffer holds what was copied. -/
theorem st_landed (c : Dev nD) (k : Fin 4) (f : Buf (Elt F) (stM.view.loc (c : Thread nD τ))) :
    ∀ i ∈ (stQ k).view.set, (stQ k).view.write (Elt F) f ((xBlk c k).view.read (Elt F) (m ((c : Thread nD τ).loc main_arg0))) Finset.univ i
      = stageF m c i := by
  intro i hi
  obtain ⟨y, -, rfl⟩ := Finset.mem_map.mp hi
  rw [View.write_emb_of_mem _ _ (Finset.mem_univ _)]
  have e : stageF m c (ix3 k (y 0) (y 1)) = (xBlk c k).view.read (Elt F) (m ((c : Thread nD τ).loc main_arg0)) (ix2 (y 0) (y 1)) := rfl
  have e2 : (ix2 (y 0) (y 1) : S1024x1024.Idx) = y := by funext a; fin_cases a <;> rfl
  rw [e2] at e
  rw [← e]
  exact congrArg (stageF m c) (stQ_emb k y).symm

section Copies
variable {α : Type} {K' : PUnit → Prog (TpuEff nD τ sig (Elt F) Λ₀ .tc) α}

theorem wp_copy_in {Q : α → sProp 𝕄} (c : Dev nD) (k : Fin 4) {srcm : Memref sig .tc .hbm S1024x1024 .f32} {dstm : Memref sig .tc .vmem S1024x1024 .f32}
    {sm : SemLoc sig} {hsrc : srcm.view.WordExact} {hdst : dstm.view.WordExact} {hsem : DmaTarget.Typed .hbm sm (DmaTarget.here (nD := nD) (τ := τ) (p := .tc) dstm)}
    (e₁ : srcm = xBlk c k) (e₂ : dstm = stQ k) (e₃ : sm = .dma (stS k)) :
    iprop(xAt m c k ∗ stAny c k ∗ stSem c k)
      ⊢ iprop((inFl m c k -∗ WP c (K' ⟨⟩) Q) -∗ WP c (.op (.enqueueDma srcm (.here dstm) sm hsrc hdst hsem) K') Q) := by
  subst e₁ e₂ e₃
  unfold xAt stAny stSem inFl
  iintro ⟨Hx, ⟨%f, Hd⟩, Hs⟩ Hk
  iapply (Transfers.wp_dmaLocal (countersEmb : UEmb Counters 𝕄) 𝒱₀ (c : Thread nD τ) none (src := xBlk c k) (dst := stQ k) (via := .same) (sm := .dma (stS k))
    (k := K') (q := qx k) (fs := m ((c : Thread nD τ).loc main_arg0)) (Sd := (stQ k).view.set) (fd := f) () Nin
    (show (stQ k).view.amount (.dma (stS k)) = Nin from by fin_cases k <;> rfl) (View.dmaCredit_pos _ (by decide)) (Finset.Subset.refl _)) $$ [Hx Hd Hs]
  · isplitl [Hx]; · iexact Hx
    isplitl [Hd]; · iexact Hd
    iexact Hs
  iintro Hfl
  iapply Hk
  iapply (Transfers.Flight_mono (countersEmb : UEmb Counters 𝕄) (c : Thread nD τ) (D' := iprop(stAt m c k ∗ (xM.view.loc (c : Thread nD τ) ↦[(xBlk c k).view.set]{qx k} m ((c : Thread nD τ).loc main_arg0)))) (BIClass.sep_mono (Entails.of_eq (pointsTo_congr (st_landed m c k f))) (Entails.refl _))) $$ Hfl

/-- The wait for a row block. -/
theorem wp_wait_in {Q : α → sProp 𝕄} (c : Dev nD) (k : Fin 4) (i : ℕ) {y : DmaSem sig} {srcm : Memref sig .tc .hbm S1024x1024 .f32}
    {dstm : Memref sig .tc .vmem S1024x1024 .f32} {hsrc : srcm.view.WordExact} {hdst : dstm.view.WordExact} (hy : y = stS k)
    (hd : dstm = stQ k) :
    iprop(ctx m K ∗ inFl m c k ∗ OW c i)
      ⊢ iprop(((stAt m c k ∗ xAt m c k ∗ stSem c k ∗ OW c i) -∗ WP c (K' ⟨⟩) Q)
          -∗ WP c (.op (.waitDma2 y srcm dstm hsrc hdst) K') Q) := by
  subst hy hd
  unfold inFl OW stSem
  iintro ⟨#HC, Hf, ⟨%W, HO⟩⟩ Hk
  iapply (Transfers.wp_waitLocalO (countersEmb : UEmb Counters 𝕄) 𝒱₀ (c : Thread nD τ) none (k := K') () (show (stQ k).view.dmaCredit = Nin from by fin_cases k <;> rfl) (O := owed c i) (W := W)) $$ [Hf HO]
  · isplitl [Hf]; · iexact Hf
    isplitl [HO]; · iexact HO
    iapply (mayWait c (.dma (stS k)) i (fun x _ => by
      rw [show kindOf (SemLoc.dma (stS k)) = none from by fin_cases k <;> rfl]
      exact Nat.lt_of_lt_of_le Nat.two_pos (Nat.le_add_right 2 _)))
    iapply (ctx_lev m K) $$ HC
  iintro ⟨⟨Hst, Hx⟩, Hv, HO⟩
  iapply Hk
  isplitl [Hst]; · iexact Hst
  isplitl [Hx]; · iexact Hx
  isplitl [Hv]; · iexact Hv
  iexists _; iexact HO

/-! ### A quarter of the result copied out -/

/-- A quarter of the result holds the half block it was copied from. -/
theorem out_landed (c : Dev nD) (d : Bool) (h : Fin 2) (f : Buf (Elt F) (oM.view.loc (c : Thread nD τ))) :
    ∀ i ∈ (oBlk h d).view.set, (oBlk h d).view.write (Elt F) f
        (fun y => outH m d h c (Shape.reshapeEquiv squeezes_S1x512x1024_S512x1024.numel_eq y)) Finset.univ i
      = outF m c i := by
  intro i hi
  obtain ⟨y, -, rfl⟩ := Finset.mem_map.mp hi
  rw [View.write_emb_of_mem _ _ (Finset.mem_univ _), hfQ_emb 0 h y]
  have h0 : (((oBlk h d).view.emb y : S1024x2048.Idx) 0).val = half h + (y 0).val := by
    show half h + 1 * (y 0).val = _; rw [Nat.one_mul]
  have h1 : (((oBlk h d).view.emb y : S1024x2048.Idx) 1).val = col d + (y 1).val := by
    show col d + 1 * (y 1).val = _; rw [Nat.one_mul]
  have b0 : (y 0).val < 512 := (y 0).2
  have b1 : (y 1).val < 1024 := (y 1).2
  have key : ∀ (i : S1024x2048.Idx), (i 0).val = half h + (y 0).val → (i 1).val = col d + (y 1).val →
      outH m d h c (ix3 (0 : Fin 1) (y 0) (y 1)) = outF m c i := by
    intro i e0 e1
    unfold outF
    have ed : decide ((i 1).val < 1024) = d := by
      rw [e1]; cases d
      · exact decide_eq_false (by show ¬ (1024 + _ < 1024); omega)
      · exact decide_eq_true (by show 0 + _ < 1024; omega)
    have eh : (if (i 0).val < 512 then (0 : Fin 2) else 1) = h := by
      rw [e0]; fin_cases h
      · exact if_pos (by show 0 + _ < 512; omega)
      · exact if_neg (by show ¬ (512 + _ < 512); omega)
    rw [ed, eh]
    refine congrArg (outH m d h c) ?_
    funext a
    fin_cases a
    · rfl
    · refine Fin.ext ?_
      show (y 0).val = (i 0).val % 512
      rw [e0]; fin_cases h
      · show _ = (0 + _) % 512; omega
      · show _ = (512 + _) % 512; omega
    · refine Fin.ext ?_
      show (y 1).val = (i 1).val % 1024
      rw [e1]; cases d
      · show _ = (1024 + _) % 1024; omega
      · show _ = (0 + _) % 1024; omega
  exact key _ h0 h1

theorem wp_copy_out {Q : α → sProp 𝕄} (c : Dev nD) (d : Bool) (h : Fin 2) {srcm : Memref sig .tc .vmem S512x1024 .f32} {dstm : Memref sig .tc .hbm S512x1024 .f32}
    {sm : SemLoc sig} {hsrc : srcm.view.WordExact} {hdst : dstm.view.WordExact} {hsem : DmaTarget.Typed .vmem sm (DmaTarget.here (nD := nD) (τ := τ) (p := .tc) dstm)}
    (e₁ : srcm = hfQ (first d) h) (e₂ : dstm = oBlk h d) (e₃ : sm = .dma (stS (oIx d h))) :
    iprop(owns (c : Thread nD τ) (hfSlot (first d) h) fullShare (outH m d h c) ∗ oAny c d h ∗ stSem c (oIx d h))
      ⊢ iprop((outFl m c d h -∗ WP c (K' ⟨⟩) Q) -∗ WP c (.op (.enqueueDma srcm (.here dstm) sm hsrc hdst hsem) K') Q) := by
  subst e₁ e₂ e₃
  unfold oAny stSem outFl
  iintro ⟨Hx, ⟨%f, Hd⟩, Hs⟩ Hk
  ihave Hx := (owns_squeeze c (hfSlot (first d) h) squeezes_S1x512x1024_S512x1024 fullShare _).1 $$ Hx
  unfold owns
  icases Hx with ⟨%g, %hg, Hx⟩
  iapply (Transfers.wp_dmaLocal (countersEmb : UEmb Counters 𝕄) 𝒱₀ (c : Thread nD τ) none (src := hfQ (first d) h) (dst := oBlk h d) (via := .same) (sm := .dma (stS (oIx d h)))
    (k := K') (q := fullShare) (fs := g) (Sd := (oBlk h d).view.set) (fd := f) () Nout
    (show (oBlk h d).view.amount (.dma (stS (oIx d h))) = Nout from by cases d <;> fin_cases h <;> rfl) (View.dmaCredit_pos _ (by decide)) (Finset.Subset.refl _)) $$ [Hx Hd Hs]
  · isplitl [Hx]; · iexact Hx
    isplitl [Hd]; · iexact Hd
    iexact Hs
  iintro Hfl
  iapply Hk
  iapply (Transfers.Flight_mono (countersEmb : UEmb Counters 𝕄) (c : Thread nD τ) (D' := iprop(oAt m c d h ∗ hfAny c (first d) h)) (BIClass.sep_mono (Entails.of_eq (by
      unfold oAt
      refine pointsTo_congr fun i hi => ?_
      rw [← out_landed m c d h f i hi, ← hg])) (by
    unfold hfAny
    iintro H
    iexists (hfSlot (first d) h).view.read (Elt F) g
    iapply (owns_squeeze c (hfSlot (first d) h) squeezes_S1x512x1024_S512x1024 fullShare _).2
    iapply (owns_intro (c : Thread nD τ) (hfQ (first d) h) fullShare g) $$ H))) $$ Hfl

theorem wp_wait_out {Q : α → sProp 𝕄} (c : Dev nD) (d : Bool) (h : Fin 2) (i : ℕ) {y : DmaSem sig} {srcm : Memref sig .tc .vmem S512x1024 .f32}
    {dstm : Memref sig .tc .hbm S512x1024 .f32} {hsrc : srcm.view.WordExact} {hdst : dstm.view.WordExact} (hy : y = stS (oIx d h))
    (hd : dstm = oBlk h d) :
    iprop(ctx m K ∗ outFl m c d h ∗ OW c i)
      ⊢ iprop(((oAt m c d h ∗ hfAny c (first d) h ∗ stSem c (oIx d h) ∗ OW c i) -∗ WP c (K' ⟨⟩) Q)
          -∗ WP c (.op (.waitDma2 y srcm dstm hsrc hdst) K') Q) := by
  subst hy hd
  unfold outFl OW stSem
  iintro ⟨#HC, Hf, ⟨%W, HO⟩⟩ Hk
  iapply (Transfers.wp_waitLocalO (countersEmb : UEmb Counters 𝕄) 𝒱₀ (c : Thread nD τ) none (k := K') () (show (oBlk h d).view.dmaCredit = Nout from by cases d <;> fin_cases h <;> rfl) (O := owed c i) (W := W)) $$ [Hf HO]
  · isplitl [Hf]; · iexact Hf
    isplitl [HO]; · iexact HO
    iapply (mayWait c (.dma (stS (oIx d h))) i (fun x _ => by
      rw [show kindOf (SemLoc.dma (stS (oIx d h))) = none from by cases d <;> fin_cases h <;> rfl]
      exact Nat.lt_of_lt_of_le Nat.two_pos (Nat.le_add_right 2 _)))
    iapply (ctx_lev m K) $$ HC
  iintro ⟨⟨Hst, Hx⟩, Hv, HO⟩
  iapply Hk
  isplitl [Hst]; · iexact Hst
  isplitl [Hx]; · iexact Hx
  isplitl [Hv]; · iexact Hv
  iexists _; iexact HO

/-! ## The barrier -/

/-- What a device spends on its two signals. -/
def barKit (d : Bool) (c : Dev nD) : sProp 𝕄 := dutyTok ER (barCell (src d c)) 0 d

/-- The signal to a neighbour: the landing slots that it writes go with it. -/
theorem wp_signal_bar {Q : α → sProp 𝕄} (c n : Dev nD) (d : Bool) (O₀ O : CellTallies nD τ sig Unit) (W : Waits sig Unit) {sm : Sem sig} {k' : ℤ}
    (hn : n = src d c) (hs : sm = barS) (hk : k' = ((1 : ℕ) : ℤ)) (hO : O₀ = O + tallyAt (barCell (src d c)) () 1) :
    iprop(ctx m K ∗ owes (c : Thread nD τ) O₀ W ∗ barKit d c ∗ landing d c)
      ⊢ iprop((owes (c : Thread nD τ) O W -∗ WP c (K' ⟨⟩) Q) -∗ WP c (.op (.semSignal (n : Thread nD τ) sm k') K') Q) := by
  subst hn hs hk
  unfold barKit
  iintro ⟨#HC, HO, Ht, Hl⟩ Hk
  iapply (Rounds.wp_signal 𝒱₀ ER (ringRd m) (c : Thread nD τ) none (dst := (src d c : Thread nD τ)) (κ := K (src d c, .inl ()))
      (d := d) (by rw [duties_bar]; exact Finset.mem_univ _) (amount_bar m (src d c) 0 d) () O hO) $$ [HO Ht Hl]
  · isplitr; · iapply (ctx_inv m K (src d c) (.inl ())) $$ HC
    isplitl [HO]; · iexact HO
    isplitl [Ht]; · iexact Ht
    isplitl [Hl]
    · rw [payload_bar, dst_src]; iexact Hl
    · iapply (ctx_reached m K (src d c) (.inl ())) $$ HC
  iexact Hk

/-- The wait for both neighbours: their landing slots come. -/
theorem wp_wait_bar {Q : α → sProp 𝕄} (c : Dev nD) (i : ℕ) {sm : Sem sig} {k' : ℤ} (hs : sm = barS) (hk : k' = ((2 : ℕ) : ℤ)) :
    iprop(ctx m K ∗ cred (tallyAt (barCell c) () 2) ∗ OW c i ∗ atPos ER (barCell c) 0 ∅ 0)
      ⊢ iprop(((OW c i ∗ atPos ER (barCell c) 1 ∅ 0 ∗ landing false (prv c) ∗ landing true (nxt c)) -∗ WP c (K' ⟨⟩) Q)
          -∗ WP c (.op (.semWait sm k') K') Q) := by
  subst hs hk
  unfold OW
  iintro ⟨#HC, Hc, ⟨%W, HO⟩, Hat⟩ Hk
  iapply (Rounds.wp_wait_rest_token 𝒱₀ ER (ringRd m) (c : Thread nD τ) none (κ := K (c, .inl ()))
      (wpE_semWait_eq 𝒱₀ (c : Thread nD τ) none Set.univ) (Set.mem_univ _) () (O := owed c i) (W := W) (R := 0) (m := 0) (T := ∅)
      (by rw [expect_bar])) $$ [Hc HO Hat]
  · isplitr; · iapply (ctx_inv m K c (.inl ())) $$ HC
    isplitl [Hc]; · iexact Hc
    isplitl [HO]; · iexact HO
    isplitr
    · iapply (mayWait c (.reg barS) i (fun x _ => Nat.lt_of_lt_of_le Nat.one_lt_two (Nat.le_add_right 2 _)))
      iapply (ctx_lev m K) $$ HC
    iexact Hat
  iintro ⟨HO, Hat, -, Hpay⟩
  ihave Hp := (Entails.of_eq (rest_bar m c)) $$ Hpay
  icases Hp with ⟨H1, H2⟩
  iapply Hk
  isplitl [HO]; · iexists _; iexact HO
  isplitl [Hat]; · iexact Hat
  isplitl [H1] <;> iassumption

end Copies

end Cert.RingProof
-- ==== Proof.Progs.lean ====
/-
# The kernel's parts at the buffers they run on
-/
module

public import proofs.«01_k».proof.Proof.Rules

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

abbrev p1 := k0_part1 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10
abbrev p2 (d0 : Dev nD) (v2 : BitVec 32) := k0_part2 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10 d0 v2
abbrev p3 (d0 : Dev nD) (v7 : BitVec 32) (v8 : Sems sig S_) := k0_part3 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10 d0 v7 v8
abbrev p4 (d0 : Dev nD) (v5 : BitVec 32) := k0_part4 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10 d0 v5
abbrev p5 (d0 : Dev nD) (v5 : BitVec 32) (v7 : BitVec 32) (v104 : FVec F S512x1024 .bf16) (v105 : Vec F S1x1x512x1024 .bf16) := k0_part5 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10 d0 v5 v7 v104 v105
abbrev p6 (d0 : Dev nD) := k0_part6 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10 d0
abbrev p7 (v7 : BitVec 32) (v146 : FVec F S1024x1024 .f32) (v151 : FVec F S1024x1024 .f32) (v158 : FVec F S512x1024 .bf16) := k0_part7 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10 v7 v146 v151 v158
abbrev p8 (d0 : Dev nD) (v7 : BitVec 32) := k0_part8 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10 d0 v7
abbrev p9 (v5 : BitVec 32) := k0_part9 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10 v5
abbrev p10 (d0 : Dev nD) (v5 : BitVec 32) (v7 : BitVec 32) := k0_part10 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10 d0 v5 v7
abbrev p11 (d0 : Dev nD) (v7 : BitVec 32) := k0_part11 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10 d0 v7
abbrev p12 (v5 : BitVec 32) := k0_part12 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10 v5
abbrev p13 (d0 : Dev nD) (v5 : BitVec 32) := k0_part13 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10 d0 v5
abbrev p14 (v7 : BitVec 32) (v304 : FVec F S1024x1024 .f32) (v309 : FVec F S1024x1024 .f32) (v316 : FVec F S512x1024 .bf16) := k0_part14 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10 v7 v304 v309 v316
abbrev p15 (d0 : Dev nD) (v7 : BitVec 32) := k0_part15 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10 d0 v7
abbrev p16 (v5 : BitVec 32) := k0_part16 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10 v5
abbrev p17 (d0 : Dev nD) (v5 : BitVec 32) (v7 : BitVec 32) := k0_part17 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10 d0 v5 v7
abbrev p18 (d0 : Dev nD) (v7 : BitVec 32) := k0_part18 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10 d0 v7
abbrev p19 (v5 : BitVec 32) := k0_part19 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10 v5
abbrev p20 (d0 : Dev nD) (v5 : BitVec 32) := k0_part20 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10 d0 v5
abbrev p21 (v7 : BitVec 32) (v467 : FVec F S1024x1024 .f32) (v475 : F .f32) := k0_part21 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10 v7 v467 v475
abbrev p22 (v5 : BitVec 32) (v472 : FVec F S1024x1024 .f32) := k0_part22 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10 v5 v472
abbrev p23 (v7 : BitVec 32) (v475 : F .f32) (v519 : FVec F S512x1024 .f32) (v520 : Vec F S1x1x512x1024 .bf16) := k0_part23 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10 v7 v475 v519 v520
abbrev p24 (v467 : FVec F S1024x1024 .f32) (v475 : F .f32) := k0_part24 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10 v467 v475
abbrev p25 (v5 : BitVec 32) (v472 : FVec F S1024x1024 .f32) (v475 : F .f32) := k0_part25 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10 v5 v472 v475
abbrev p26 := k0_part26 (F := F) xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10

end Cert.RingProof
-- ==== Proof.PartsA.lean ====
/-
# The kernel's first steps, part by part: the barrier, the copies in, the first round of sends

Each theorem takes a part of the kernel from what it uses to what it leaves.
-/
module

public import proofs.«01_k».proof.Proof.Progs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- The landing slots of one direction, one by one. -/
theorem landing_split (d : Bool) (c : Dev nD) :
    (landing d (dst d c) : sProp 𝕄) ⊢ iprop(landAny d 0 0 c ∗ landAny d 0 1 c ∗ landAny d 1 0 c ∗ landAny d 1 1 c ∗ landAny d 2 0 c ∗ landAny d 2 1 c) := by
  unfold landing landAny
  rw [bigSep_univ_eq_bigSepL [(0, 0), (0, 1), (1, 0), (1, 1), (2, 0), (2, 1)] (by decide) (by decide)]
  exact Entails.refl _

/-- The two signals and the first copy. -/
theorem p1_spec {Q : _ → sProp 𝕄} :
    iprop(ctx m K ∗ (∃ W, owes (c : Thread nD τ) (owed₀ c) W) ∗ barKit true c ∗ barKit false c ∗ landing true c ∗ landing false c
        ∗ xAt m c 3 ∗ stAny c 3 ∗ stSem c 3)
      ⊢ iprop((∀ v2 v5 v7, (OW c 0 ∗ inFl m c 3) -∗ Q ⟨c, v2, v5, v7, SemArray.scalar (sig.barrier 0 rfl)⟩) -∗ WP c p1 Q) := by
  unfold p1
  simp only [k0_part1_eq_skeleton]; unfold k0_part1_skel
  simp only [semSignalWord, Prog.lift, Prog.bind_op, Prog.bind_ret, Prog.pure_eq_ret, wp_deviceId]
  iintro ⟨#HC, ⟨%W, HO⟩, Hb₁, Hb₂, Hl₁, Hl₂, Hx, Hst, Hs⟩ Hk
  iapply (wp_signal_bar m K c _ true (owed₀ c) (owed₁ c) W (dev1_eq c) rfl rfl rfl) $$ [HO Hb₁ Hl₁]
  · isplitr; · iexact HC
    isplitl [HO]; · iexact HO
    isplitl [Hb₁] <;> iassumption
  iintro HO
  iapply (wp_signal_bar m K c _ false (owed₁ c) (owed c 0) W (dev2_eq c) rfl rfl rfl) $$ [HO Hb₂ Hl₂]
  · isplitr; · iexact HC
    isplitl [HO]; · iexact HO
    isplitl [Hb₂] <;> iassumption
  iintro HO
  iapply (wp_copy_in m c 3 rfl rfl rfl) $$ [Hx Hst Hs]
  · isplitl [Hx]; · iexact Hx
    isplitl [Hst] <;> iassumption
  iintro Hf
  iapply (wp_done c)
  iapply Hk
  isplitl [HO]; · unfold OW; iexists W; iexact HO
  iexact Hf

/-- The other three copies, `w` to eight bits, the wait for the first copy. -/
theorem p2_spec {Q : _ → sProp 𝕄} (v2 : BitVec 32) :
    iprop(ctx m K ∗ OW c 0 ∗ inFl m c 3 ∗ (xAt m c 1 ∗ stAny c 1 ∗ stSem c 1) ∗ (xAt m c 2 ∗ stAny c 2 ∗ stSem c 2) ∗ (xAt m c 0 ∗ stAny c 0 ∗ stSem c 0)
        ∗ (wM.view.loc (c : Thread nD τ) ↦{fullShare} wstg m c) ∗ (∃ f, wqM.view.loc (c : Thread nD τ) ↦{fullShare} f))
      ⊢ iprop(((OW c 0 ∗ inFl m c 1 ∗ inFl m c 2 ∗ inFl m c 0 ∗ (stAt m c 3 ∗ xAt m c 3 ∗ stSem c 3)
          ∗ (wM.view.loc (c : Thread nD τ) ↦{fullShare} wstg m c) ∗ wqAt m c) -∗ Q ⟨⟩) -∗ WP c (p2 c v2) Q) := by
  unfold p2
  simp only [k0_part2_eq_skeleton]; unfold k0_part2_skel
  simp only [Prog.lift, Prog.bind_op, Prog.bind_ret, Prog.pure_eq_ret]
  iintro ⟨#HC, HO, Hf3, H1, H2, H0, Hw, ⟨%f, Hwq⟩⟩ Hk
  iapply (wp_copy_in m c 1 rfl rfl rfl) $$ H1; iintro Hf1
  iapply (wp_copy_in m c 2 rfl rfl rfl) $$ H2; iintro Hf2
  iapply (wp_copy_in m c 0 rfl rfl rfl) $$ H0; iintro Hf0
  iapply (wp_load_w c (wstg m c)) $$ Hw; iintro Hw
  iapply (wp_load_wqAny c f) $$ Hwq; iintro Hwq
  iapply (wp_store_wq c f) $$ Hwq; iintro Hwq
  iapply (wp_wait_in m K c 3 0 rfl rfl) $$ [Hf3 HO]
  · isplitr; · iexact HC
    isplitl [Hf3] <;> iassumption
  iintro ⟨Hst, Hx, Hs, HO⟩
  iapply (wp_done c)
  iapply Hk
  isplitl [HO]; · iexact HO
  isplitl [Hf1]; · iexact Hf1
  isplitl [Hf2]; · iexact Hf2
  isplitl [Hf0]; · iexact Hf0
  isplitl [Hst Hx Hs]
  · isplitl [Hst]; · iexact Hst
    isplitl [Hx] <;> iassumption
  isplitl [Hw]; · iexact Hw
  unfold wqAt wqF; iexact Hwq

/-- The second copy's wait, the barrier, the first clockwise send. -/
theorem p3_spec {Q : _ → sProp 𝕄} (v7 : BitVec 32) :
    iprop(ctx m K ∗ OW c 0 ∗ inFl m c 1 ∗ cred (tallyAt (barCell c) () 2) ∗ atPos ER (barCell c) 0 ∅ 0 ∗ stAt m c 3 ∗ wqAt m c
        ∗ sndAny true 0 0 c ∗ sendKit true 0 0 c ∗ sndPos true 0 0 c 0)
      ⊢ iprop(((OW c 1 ∗ (stAt m c 1 ∗ xAt m c 1 ∗ stSem c 1) ∗ atPos ER (barCell c) 1 ∅ 0 ∗ stAt m c 3 ∗ wqAt m c ∗ sndOut true 0 0 c
          ∗ (landAny true 0 1 c ∗ landAny true 1 0 c ∗ landAny true 1 1 c ∗ landAny true 2 0 c ∗ landAny true 2 1 c)
          ∗ (landAny false 0 0 c ∗ landAny false 0 1 c ∗ landAny false 1 0 c ∗ landAny false 1 1 c ∗ landAny false 2 0 c ∗ landAny false 2 1 c))
          -∗ Q ⟨⟩) -∗ WP c (p3 c v7 (SemArray.scalar (sig.barrier 0 rfl))) Q) := by
  unfold p3
  simp only [k0_part3_eq_skeleton]; unfold k0_part3_skel
  simp only [semWaitWord, Prog.lift, Prog.bind_op, Prog.bind_ret, Prog.pure_eq_ret]
  iintro ⟨#HC, HO, Hf, Hc, Hat, Hst, Hwq, Hsn, Hkit, Hps⟩ Hk
  unfold sndAny
  icases Hsn with ⟨%X, Hsn⟩
  iapply (wp_wait_in m K c 1 0 rfl rfl) $$ [Hf HO]
  · isplitr; · iexact HC
    isplitl [Hf] <;> iassumption
  iintro ⟨H1, Hx, Hs, HO⟩
  iapply (wp_wait_bar m K c 0 rfl rfl) $$ [Hc HO Hat]
  · isplitr; · iexact HC
    isplitl [Hc]; · iexact Hc
    isplitl [HO] <;> iassumption
  iintro ⟨HO, Hat, HlF, HlT⟩
  ihave HlT := (landing_split true c) $$ HlT
  ihave HlF := (landing_split false c) $$ HlF
  icases HlT with ⟨Hl, HlT⟩
  ihave Hg : iprop(sendGo true 0 0 c) $$ [Hl Hkit]
  · unfold sendGo; isplitl [Hl] <;> iassumption
  iapply (wp_load_hf m c 3 0 rfl) $$ Hst; iintro Hst
  iapply (wp_load_wq m c true rfl) $$ Hwq; iintro Hwq
  iapply (wp_load_snd c true 0 0 rfl rfl) $$ Hsn; iintro Hsn
  iapply (wp_store_snd c true 0 0 rfl rfl (sent m true 0 0 c) rfl) $$ Hsn; iintro Hsn
  iapply (wp_go m K c _ true 0 0 0 (dev3_eq c) rfl rfl rfl rfl rfl) $$ [Hsn Hg HO Hps]
  · isplitr; · iexact HC
    isplitl [Hsn]; · iexact Hsn
    isplitl [Hg]; · iexact Hg
    isplitl [HO]; · iexact HO
    isplitl [Hps]; · iexact Hps
    iapply (ctx_reached m K c (.inr (.inl (true, 0, 0)))) $$ HC
  iintro ⟨Hcr, HO⟩
  iapply (wp_done c)
  iapply Hk
  isplitl [HO]; · iexact HO
  isplitl [H1 Hx Hs]
  · isplitl [H1]; · iexact H1
    isplitl [Hx] <;> iassumption
  isplitl [Hat]; · iexact Hat
  isplitl [Hst]; · iexact Hst
  isplitl [Hwq]; · iexact Hwq
  isplitl [Hcr]; · iexact Hcr
  isplitl [HlT] <;> iassumption

/-- The first counter-clockwise send; the second clockwise block computed. -/
theorem p4_spec {Q : _ → sProp 𝕄} (v5 : BitVec 32) :
    iprop(ctx m K ∗ OW c 1 ∗ stAt m c 1 ∗ stAt m c 3 ∗ wqAt m c ∗ sndAny false 0 0 c ∗ sendGo false 0 0 c ∗ sndPos false 0 0 c 0 ∗ sndAny true 0 1 c)
      ⊢ iprop((∀ X, (OW c 2 ∗ stAt m c 1 ∗ stAt m c 3 ∗ wqAt m c ∗ sndOut false 0 0 c ∗ sndAny true 0 1 c)
          -∗ Q ⟨k0_pay4 (Ah m c 3 1) (Bw m c true), X⟩) -∗ WP c (p4 c v5) Q) := by
  unfold p4
  simp only [k0_part4_eq_skeleton]; unfold k0_part4_skel
  simp only [Prog.lift, Prog.bind_op, Prog.bind_ret, Prog.pure_eq_ret]
  unfold sndAny
  iintro ⟨#HC, HO, H1, H3, Hwq, ⟨%X, Hsn⟩, Hg, Hps, ⟨%Y, Ht⟩⟩ Hk
  iapply (wp_load_hf m c 1 0 rfl) $$ H1; iintro H1
  iapply (wp_load_wq m c false rfl) $$ Hwq; iintro Hwq
  iapply (wp_load_snd c false 0 0 rfl rfl) $$ Hsn; iintro Hsn
  iapply (wp_store_snd c false 0 0 rfl rfl (sent m false 0 0 c) rfl) $$ Hsn; iintro Hsn
  iapply (wp_go m K c _ false 0 0 1 (dev4_eq c) rfl rfl rfl rfl rfl) $$ [Hsn Hg HO Hps]
  · isplitr; · iexact HC
    isplitl [Hsn]; · iexact Hsn
    isplitl [Hg]; · iexact Hg
    isplitl [HO]; · iexact HO
    isplitl [Hps]; · iexact Hps
    iapply (ctx_reached m K c (.inr (.inl (false, 0, 0)))) $$ HC
  iintro ⟨Hcr, HO⟩
  iapply (wp_load_hf m c 3 1 rfl) $$ H3; iintro H3
  iapply (wp_load_wq m c true rfl) $$ Hwq; iintro Hwq
  iapply (wp_load_snd c true 0 1 rfl rfl) $$ Ht; iintro Ht
  iapply (wp_done c)
  iapply Hk
  isplitl [HO]; · iexact HO
  isplitl [H1]; · iexact H1
  isplitl [H3]; · iexact H3
  isplitl [Hwq]; · iexact Hwq
  isplitl [Hcr]; · iexact Hcr
  iexists Y; iexact Ht

/-- The second clockwise send; the second counter-clockwise block computed. -/
theorem p5_spec {Q : _ → sProp 𝕄} (v5 v7 : BitVec 32) (X : Vec F S1x1x512x1024 .bf16) :
    iprop(ctx m K ∗ OW c 2 ∗ stAt m c 1 ∗ wqAt m c ∗ sndAny true 0 1 c ∗ sendGo true 0 1 c ∗ sndPos true 0 1 c 0 ∗ sndAny false 0 1 c)
      ⊢ iprop(((OW c 3 ∗ stAt m c 1 ∗ wqAt m c ∗ sndOut true 0 1 c ∗ owns (c : Thread nD τ) (sndSlot false 0 1) fullShare (sent m false 0 1 c))
          -∗ Q ⟨⟩) -∗ WP c (p5 c v5 v7 (k0_pay4 (Ah m c 3 1) (Bw m c true)) X) Q) := by
  unfold p5
  simp only [k0_part5_eq_skeleton]; unfold k0_part5_skel
  simp only [Prog.lift, Prog.bind_op, Prog.bind_ret, Prog.pure_eq_ret]
  unfold sndAny
  iintro ⟨#HC, HO, H1, Hwq, ⟨%X, Hsn⟩, Hg, Hps, ⟨%Y, Ht⟩⟩ Hk
  iapply (wp_store_snd c true 0 1 rfl rfl (sent m true 0 1 c) rfl) $$ Hsn; iintro Hsn
  iapply (wp_go m K c _ true 0 1 2 (dev5_eq c) rfl rfl rfl rfl rfl) $$ [Hsn Hg HO Hps]
  · isplitr; · iexact HC
    isplitl [Hsn]; · iexact Hsn
    isplitl [Hg]; · iexact Hg
    isplitl [HO]; · iexact HO
    isplitl [Hps]; · iexact Hps
    iapply (ctx_reached m K c (.inr (.inl (true, 0, 1)))) $$ HC
  iintro ⟨Hcr, HO⟩
  iapply (wp_load_hf m c 1 1 rfl) $$ H1; iintro H1
  iapply (wp_load_wq m c false rfl) $$ Hwq; iintro Hwq
  iapply (wp_load_snd c false 0 1 rfl rfl) $$ Ht; iintro Ht
  iapply (wp_store_snd c false 0 1 rfl rfl (sent m false 0 1 c) rfl) $$ Ht; iintro Ht
  iapply (wp_done c)
  iapply Hk
  isplitl [HO]; · iexact HO
  isplitl [H1]; · iexact H1
  isplitl [Hwq]; · iexact Hwq
  isplitl [Hcr]; · iexact Hcr
  iexact Ht

end Cert.RingProof
-- ==== Proof.PartsB.lean ====
/-
# Parts 6 to 12: the partial products of the second round, the first round's landings added
-/
module

public import proofs.«01_k».proof.Proof.PartsA

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- A send slot of the device holding `X`. -/
abbrev slot (d : Bool) (q j : Fin 2) (X : Vec F S1x1x512x1024 .bf16) (c : Dev nD) : sProp 𝕄 := owns (c : Thread nD τ) (sndSlot d q j) fullShare X
/-- The partial products a device adds in the second round. -/
abbrev mid (j : Fin 2) (d : Bool) (c : Dev nD) : Vec F S1x1x512x1024 .bf16 := rowsOf j (part m c 2 d)
abbrev fin (j : Fin 2) (d : Bool) (c : Dev nD) : Vec F S1x1x512x1024 .bf16 := rowsOf j (part m c (third d) d)

/-- The last send of the first round; chunk 2 arrives and is multiplied. -/
theorem p6_spec {Q : _ → sProp 𝕄} :
    iprop(ctx m K ∗ OW c 3 ∗ slot false 0 1 (sent m false 0 1 c) c ∗ sendGo false 0 1 c ∗ sndPos false 0 1 c 0 ∗ inFl m c 2 ∗ wqAt m c
        ∗ sndAny true 1 0 c)
      ⊢ iprop(((OW c 4 ∗ sndOut false 0 1 c ∗ (stAt m c 2 ∗ xAt m c 2 ∗ stSem c 2) ∗ wqAt m c ∗ slot true 1 0 (mid m 0 true c) c)
          -∗ Q ⟨k0_pay7 (Ab m c 2) (Bw m c true), k0_pay8 (Ab m c 2) (Bw m c false), k0_pay10 (Ab m c 2) (Bw m c false)⟩) -∗ WP c (p6 c) Q) := by
  unfold p6
  simp only [k0_part6_eq_skeleton]; unfold k0_part6_skel
  simp only [Prog.lift, Prog.bind_op, Prog.bind_ret, Prog.pure_eq_ret]
  unfold sndAny
  iintro ⟨#HC, HO, Hsn, Hg, Hps, Hf, Hwq, ⟨%Y, Ht⟩⟩ Hk
  iapply (wp_go m K c _ false 0 1 3 (dev6_eq c) rfl rfl rfl rfl rfl) $$ [Hsn Hg HO Hps]
  · iframe; iframe HC
    iapply (ctx_reached m K c (.inr (.inl (false, 0, 1)))) $$ HC
  iintro ⟨Hcr, HO⟩
  iapply (wp_wait_in m K c 2 4 rfl rfl) $$ [Hf HO]
  · iframe; iexact HC
  iintro ⟨H2, Hx, Hs, HO⟩
  iapply (wp_load_st m c 2 rfl) $$ H2; iintro H2
  iapply (wp_load_wq m c true rfl) $$ Hwq; iintro Hwq
  iapply (wp_load_st m c 2 rfl) $$ H2; iintro H2
  iapply (wp_load_wq m c false rfl) $$ Hwq; iintro Hwq
  iapply (wp_load_snd c true 1 0 rfl rfl) $$ Ht; iintro Ht
  iapply (wp_store_snd c true 1 0 rfl rfl (mid m 0 true c) rfl) $$ Ht; iintro Ht
  iapply (wp_done c)
  iapply Hk
  iframe

/-- The other partial products of chunk 2 stored; the first send slot comes back. -/
theorem p7_spec {Q : _ → sProp 𝕄} (v7 : BitVec 32) :
    iprop(ctx m K ∗ OW c 4 ∗ sndAny false 1 0 c ∗ sndAny true 1 1 c ∗ sndAny false 1 1 c ∗ sndOut true 0 0 c)
      ⊢ iprop(((OW c 4 ∗ slot false 1 0 (mid m 0 false c) c ∗ slot true 1 1 (mid m 1 true c) c ∗ slot false 1 1 (mid m 1 false c) c ∗ sndBack true 0 0 c)
          -∗ Q ⟨⟩) -∗ WP c (p7 v7 (k0_pay7 (Ab m c 2) (Bw m c true)) (k0_pay8 (Ab m c 2) (Bw m c false)) (k0_pay10 (Ab m c 2) (Bw m c false))) Q) := by
  unfold p7
  simp only [k0_part7_eq_skeleton]; unfold k0_part7_skel
  simp only [Prog.lift, Prog.bind_op, Prog.bind_ret, Prog.pure_eq_ret]
  unfold sndAny
  iintro ⟨#HC, HO, ⟨%X, Hx⟩, ⟨%Y, Hy⟩, ⟨%Z, Hz⟩, Hr⟩ Hk
  iapply (wp_load_snd c false 1 0 rfl rfl) $$ Hx; iintro Hx
  iapply (wp_store_snd c false 1 0 rfl rfl (mid m 0 false c) rfl) $$ Hx; iintro Hx
  iapply (wp_load_snd c true 1 1 rfl rfl) $$ Hy; iintro Hy
  iapply (wp_store_snd c true 1 1 rfl rfl (mid m 1 true c) rfl) $$ Hy; iintro Hy
  iapply (wp_load_snd c false 1 1 rfl rfl) $$ Hz; iintro Hz
  iapply (wp_store_snd c false 1 1 rfl rfl (mid m 1 false c) rfl) $$ Hz; iintro Hz
  iapply (wp_back m K c true 0 0 4 rfl rfl) $$ [Hr HO]
  · iframe; iexact HC
  iintro ⟨HO, Hr⟩
  iapply (wp_done c)
  iapply Hk
  iframe

/-- The first clockwise landing, added and sent on. -/
theorem p8_spec {Q : _ → sProp 𝕄} (v7 : BitVec 32) :
    iprop(ctx m K ∗ OW c 4 ∗ rcvWait true 0 0 c ∗ slot true 1 0 (mid m 0 true c) c ∗ sendGo true 1 0 c ∗ sndPos true 1 0 c 0)
      ⊢ iprop(((OW c 5 ∗ rcvDone m true 0 0 c ∗ sndOut true 1 0 c) -∗ Q ⟨⟩) -∗ WP c (p8 c v7) Q) := by
  unfold p8
  simp only [k0_part8_eq_skeleton]; unfold k0_part8_skel
  simp only [Prog.lift, Prog.bind_op, Prog.bind_ret, Prog.pure_eq_ret]
  iintro ⟨#HC, HO, Hw, Hsn, Hg, Hps⟩ Hk
  iapply (wp_land m K c true 0 0 4 rfl rfl (by decide)) $$ [Hw HO]
  · iframe; iexact HC
  iintro ⟨HO, Hd⟩
  iapply (wp_load_snd c true 1 0 rfl rfl) $$ Hsn; iintro Hsn
  iapply (wp_load_land m c true 0 0 rfl rfl) $$ Hd; iintro Hd
  iapply (wp_load_snd c true 1 0 rfl rfl) $$ Hsn; iintro Hsn
  iapply (wp_store_snd c true 1 0 rfl rfl (sent m true 1 0 c) rfl) $$ Hsn; iintro Hsn
  iapply (wp_go m K c _ true 1 0 4 (dev7_eq c) rfl rfl rfl rfl rfl) $$ [Hsn Hg HO Hps]
  · iframe; iframe HC
    iapply (ctx_reached m K c (.inr (.inl (true, 1, 0)))) $$ HC
  iintro ⟨Hcr, HO⟩
  iapply (wp_done c)
  iapply Hk
  iframe

/-- The first counter-clockwise landing, added. -/
theorem p9_spec {Q : _ → sProp 𝕄} (v5 : BitVec 32) :
    iprop(ctx m K ∗ OW c 5 ∗ sndOut false 0 0 c ∗ rcvWait false 0 0 c ∗ slot false 1 0 (mid m 0 false c) c)
      ⊢ iprop(((OW c 5 ∗ sndBack false 0 0 c ∗ rcvDone m false 0 0 c ∗ slot false 1 0 (sent m false 1 0 c) c) -∗ Q ⟨⟩) -∗ WP c (p9 v5) Q) := by
  unfold p9
  simp only [k0_part9_eq_skeleton]; unfold k0_part9_skel
  simp only [Prog.lift, Prog.bind_op, Prog.bind_ret, Prog.pure_eq_ret]
  iintro ⟨#HC, HO, Hr, Hw, Hsn⟩ Hk
  iapply (wp_back m K c false 0 0 5 rfl rfl) $$ [Hr HO]
  · iframe; iexact HC
  iintro ⟨HO, Hr⟩
  iapply (wp_land m K c false 0 0 5 rfl rfl (by decide)) $$ [Hw HO]
  · iframe; iexact HC
  iintro ⟨HO, Hd⟩
  iapply (wp_load_snd c false 1 0 rfl rfl) $$ Hsn; iintro Hsn
  iapply (wp_load_land m c false 0 0 rfl rfl) $$ Hd; iintro Hd
  iapply (wp_load_snd c false 1 0 rfl rfl) $$ Hsn; iintro Hsn
  iapply (wp_store_snd c false 1 0 rfl rfl (sent m false 1 0 c) rfl) $$ Hsn; iintro Hsn
  iapply (wp_done c)
  iapply Hk
  iframe

/-- The first counter-clockwise landing sent on; the second clockwise send slot comes back. -/
theorem p10_spec {Q : _ → sProp 𝕄} (v5 v7 : BitVec 32) :
    iprop(ctx m K ∗ OW c 5 ∗ slot false 1 0 (sent m false 1 0 c) c ∗ sendGo false 1 0 c ∗ sndPos false 1 0 c 0 ∗ sndOut true 0 1 c)
      ⊢ iprop(((OW c 6 ∗ sndOut false 1 0 c ∗ sndBack true 0 1 c) -∗ Q ⟨⟩) -∗ WP c (p10 c v5 v7) Q) := by
  unfold p10
  simp only [k0_part10_eq_skeleton]; unfold k0_part10_skel
  simp only [Prog.lift, Prog.bind_op, Prog.bind_ret, Prog.pure_eq_ret]
  iintro ⟨#HC, HO, Hsn, Hg, Hps, Hr⟩ Hk
  iapply (wp_go m K c _ false 1 0 5 (dev8_eq c) rfl rfl rfl rfl rfl) $$ [Hsn Hg HO Hps]
  · iframe; iframe HC
    iapply (ctx_reached m K c (.inr (.inl (false, 1, 0)))) $$ HC
  iintro ⟨Hcr, HO⟩
  iapply (wp_back m K c true 0 1 6 rfl rfl) $$ [Hr HO]
  · iframe; iexact HC
  iintro ⟨HO, Hr⟩
  iapply (wp_done c)
  iapply Hk
  iframe

/-- The second clockwise landing, added and sent on. -/
theorem p11_spec {Q : _ → sProp 𝕄} (v7 : BitVec 32) :
    iprop(ctx m K ∗ OW c 6 ∗ rcvWait true 0 1 c ∗ slot true 1 1 (mid m 1 true c) c ∗ sendGo true 1 1 c ∗ sndPos true 1 1 c 0)
      ⊢ iprop(((OW c 7 ∗ rcvDone m true 0 1 c ∗ sndOut true 1 1 c) -∗ Q ⟨⟩) -∗ WP c (p11 c v7) Q) := by
  unfold p11
  simp only [k0_part11_eq_skeleton]; unfold k0_part11_skel
  simp only [Prog.lift, Prog.bind_op, Prog.bind_ret, Prog.pure_eq_ret]
  iintro ⟨#HC, HO, Hw, Hsn, Hg, Hps⟩ Hk
  iapply (wp_land m K c true 0 1 6 rfl rfl (by decide)) $$ [Hw HO]
  · iframe; iexact HC
  iintro ⟨HO, Hd⟩
  iapply (wp_load_snd c true 1 1 rfl rfl) $$ Hsn; iintro Hsn
  iapply (wp_load_land m c true 0 1 rfl rfl) $$ Hd; iintro Hd
  iapply (wp_load_snd c true 1 1 rfl rfl) $$ Hsn; iintro Hsn
  iapply (wp_store_snd c true 1 1 rfl rfl (sent m true 1 1 c) rfl) $$ Hsn; iintro Hsn
  iapply (wp_go m K c _ true 1 1 6 (dev9_eq c) rfl rfl rfl rfl rfl) $$ [Hsn Hg HO Hps]
  · iframe; iframe HC
    iapply (ctx_reached m K c (.inr (.inl (true, 1, 1)))) $$ HC
  iintro ⟨Hcr, HO⟩
  iapply (wp_done c)
  iapply Hk
  iframe

/-- The second counter-clockwise landing, added. -/
theorem p12_spec {Q : _ → sProp 𝕄} (v5 : BitVec 32) :
    iprop(ctx m K ∗ OW c 7 ∗ sndOut false 0 1 c ∗ rcvWait false 0 1 c ∗ slot false 1 1 (mid m 1 false c) c)
      ⊢ iprop(((OW c 7 ∗ sndBack false 0 1 c ∗ rcvDone m false 0 1 c ∗ slot false 1 1 (sent m false 1 1 c) c) -∗ Q ⟨⟩) -∗ WP c (p12 v5) Q) := by
  unfold p12
  simp only [k0_part12_eq_skeleton]; unfold k0_part12_skel
  simp only [Prog.lift, Prog.bind_op, Prog.bind_ret, Prog.pure_eq_ret]
  iintro ⟨#HC, HO, Hr, Hw, Hsn⟩ Hk
  iapply (wp_back m K c false 0 1 7 rfl rfl) $$ [Hr HO]
  · iframe; iexact HC
  iintro ⟨HO, Hr⟩
  iapply (wp_land m K c false 0 1 7 rfl rfl (by decide)) $$ [Hw HO]
  · iframe; iexact HC
  iintro ⟨HO, Hd⟩
  iapply (wp_load_snd c false 1 1 rfl rfl) $$ Hsn; iintro Hsn
  iapply (wp_load_land m c false 0 1 rfl rfl) $$ Hd; iintro Hd
  iapply (wp_load_snd c false 1 1 rfl rfl) $$ Hsn; iintro Hsn
  iapply (wp_store_snd c false 1 1 rfl rfl (sent m false 1 1 c) rfl) $$ Hsn; iintro Hsn
  iapply (wp_done c)
  iapply Hk
  iframe

end Cert.RingProof
-- ==== Proof.PartsC.lean ====
/-
# Parts 13 to 19: the partial products of the third round, the second round's landings added
-/
module

public import proofs.«01_k».proof.Proof.PartsB

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- The last send of the second round; the partial products of the third. -/
theorem p13_spec {Q : _ → sProp 𝕄} (v5 : BitVec 32) :
    iprop(ctx m K ∗ OW c 7 ∗ slot false 1 1 (sent m false 1 1 c) c ∗ sendGo false 1 1 c ∗ sndPos false 1 1 c 0 ∗ stAt m c 1 ∗ stAt m c 3 ∗ wqAt m c
        ∗ sndAny true 0 0 c)
      ⊢ iprop(((OW c 8 ∗ sndOut false 1 1 c ∗ stAt m c 1 ∗ stAt m c 3 ∗ wqAt m c ∗ slot true 0 0 (fin m 0 true c) c)
          -∗ Q ⟨k0_pay18 (Ab m c 1) (Bw m c true), k0_pay19 (Ab m c 3) (Bw m c false), k0_pay21 (Ab m c 3) (Bw m c false)⟩)
          -∗ WP c (p13 c v5) Q) := by
  unfold p13
  simp only [k0_part13_eq_skeleton]; unfold k0_part13_skel
  simp only [Prog.lift, Prog.bind_op, Prog.bind_ret, Prog.pure_eq_ret]
  unfold sndAny
  iintro ⟨#HC, HO, Hsn, Hg, Hps, H1, H3, Hwq, ⟨%Y, Ht⟩⟩ Hk
  iapply (wp_go m K c _ false 1 1 7 (dev10_eq c) rfl rfl rfl rfl rfl) $$ [Hsn Hg HO Hps]
  · iframe; iframe HC
    iapply (ctx_reached m K c (.inr (.inl (false, 1, 1)))) $$ HC
  iintro ⟨Hcr, HO⟩
  iapply (wp_load_st m c 1 rfl) $$ H1; iintro H1
  iapply (wp_load_wq m c true rfl) $$ Hwq; iintro Hwq
  iapply (wp_load_st m c 3 rfl) $$ H3; iintro H3
  iapply (wp_load_wq m c false rfl) $$ Hwq; iintro Hwq
  iapply (wp_load_snd c true 0 0 rfl rfl) $$ Ht; iintro Ht
  iapply (wp_store_snd c true 0 0 rfl rfl (fin m 0 true c) rfl) $$ Ht; iintro Ht
  iapply (wp_done c)
  iapply Hk
  iframe

/-- The other partial products of the third round stored; the second round's first send slot comes back. -/
theorem p14_spec {Q : _ → sProp 𝕄} (v7 : BitVec 32) :
    iprop(ctx m K ∗ OW c 8 ∗ sndAny false 0 0 c ∗ sndAny true 0 1 c ∗ sndAny false 0 1 c ∗ sndOut true 1 0 c)
      ⊢ iprop(((OW c 8 ∗ slot false 0 0 (fin m 0 false c) c ∗ slot true 0 1 (fin m 1 true c) c ∗ slot false 0 1 (fin m 1 false c) c ∗ sndBack true 1 0 c)
          -∗ Q ⟨⟩) -∗ WP c (p14 v7 (k0_pay18 (Ab m c 1) (Bw m c true)) (k0_pay19 (Ab m c 3) (Bw m c false)) (k0_pay21 (Ab m c 3) (Bw m c false))) Q) := by
  unfold p14
  simp only [k0_part14_eq_skeleton]; unfold k0_part14_skel
  simp only [Prog.lift, Prog.bind_op, Prog.bind_ret, Prog.pure_eq_ret]
  unfold sndAny
  iintro ⟨#HC, HO, ⟨%X, Hx⟩, ⟨%Y, Hy⟩, ⟨%Z, Hz⟩, Hr⟩ Hk
  iapply (wp_load_snd c false 0 0 rfl rfl) $$ Hx; iintro Hx
  iapply (wp_store_snd c false 0 0 rfl rfl (fin m 0 false c) rfl) $$ Hx; iintro Hx
  iapply (wp_load_snd c true 0 1 rfl rfl) $$ Hy; iintro Hy
  iapply (wp_store_snd c true 0 1 rfl rfl (fin m 1 true c) rfl) $$ Hy; iintro Hy
  iapply (wp_load_snd c false 0 1 rfl rfl) $$ Hz; iintro Hz
  iapply (wp_store_snd c false 0 1 rfl rfl (fin m 1 false c) rfl) $$ Hz; iintro Hz
  iapply (wp_back m K c true 1 0 8 rfl rfl) $$ [Hr HO]
  · iframe; iexact HC
  iintro ⟨HO, Hr⟩
  iapply (wp_done c)
  iapply Hk
  iframe

/-- The second round's first clockwise landing, added and sent on. -/
theorem p15_spec {Q : _ → sProp 𝕄} (v7 : BitVec 32) :
    iprop(ctx m K ∗ OW c 8 ∗ rcvWait true 1 0 c ∗ slot true 0 0 (fin m 0 true c) c ∗ sendGo true 2 0 c ∗ sndPos true 0 0 c 1
        ∗ reached ER (sndCell true 0 0 c) 1)
      ⊢ iprop(((OW c 9 ∗ rcvDone m true 1 0 c ∗ sndOut true 2 0 c) -∗ Q ⟨⟩) -∗ WP c (p15 c v7) Q) := by
  unfold p15
  simp only [k0_part15_eq_skeleton]; unfold k0_part15_skel
  simp only [Prog.lift, Prog.bind_op, Prog.bind_ret, Prog.pure_eq_ret]
  iintro ⟨#HC, HO, Hw, Hsn, Hg, Hps, Hre⟩ Hk
  iapply (wp_land m K c true 1 0 8 rfl rfl (by decide)) $$ [Hw HO]
  · iframe; iexact HC
  iintro ⟨HO, Hd⟩
  iapply (wp_load_snd c true 0 0 rfl rfl) $$ Hsn; iintro Hsn
  iapply (wp_load_land m c true 1 0 rfl rfl) $$ Hd; iintro Hd
  iapply (wp_load_snd c true 0 0 rfl rfl) $$ Hsn; iintro Hsn
  iapply (wp_store_snd c true 0 0 rfl rfl (sent m true 2 0 c) rfl) $$ Hsn; iintro Hsn
  iapply (wp_go m K c _ true 2 0 8 (dev11_eq c) rfl rfl rfl rfl rfl) $$ [Hsn Hg HO Hps Hre]
  · iframe HC
    isplitl [Hsn]; · iexact Hsn
    isplitl [Hg]; · iexact Hg
    isplitl [HO]; · iexact HO
    isplitl [Hps] <;> iassumption
  iintro ⟨Hcr, HO⟩
  iapply (wp_done c)
  iapply Hk
  iframe

/-- The second round's first counter-clockwise landing, added. -/
theorem p16_spec {Q : _ → sProp 𝕄} (v5 : BitVec 32) :
    iprop(ctx m K ∗ OW c 9 ∗ sndOut false 1 0 c ∗ rcvWait false 1 0 c ∗ slot false 0 0 (fin m 0 false c) c)
      ⊢ iprop(((OW c 9 ∗ sndBack false 1 0 c ∗ rcvDone m false 1 0 c ∗ slot false 0 0 (sent m false 2 0 c) c) -∗ Q ⟨⟩) -∗ WP c (p16 v5) Q) := by
  unfold p16
  simp only [k0_part16_eq_skeleton]; unfold k0_part16_skel
  simp only [Prog.lift, Prog.bind_op, Prog.bind_ret, Prog.pure_eq_ret]
  iintro ⟨#HC, HO, Hr, Hw, Hsn⟩ Hk
  iapply (wp_back m K c false 1 0 9 rfl rfl) $$ [Hr HO]
  · iframe; iexact HC
  iintro ⟨HO, Hr⟩
  iapply (wp_land m K c false 1 0 9 rfl rfl (by decide)) $$ [Hw HO]
  · iframe; iexact HC
  iintro ⟨HO, Hd⟩
  iapply (wp_load_snd c false 0 0 rfl rfl) $$ Hsn; iintro Hsn
  iapply (wp_load_land m c false 1 0 rfl rfl) $$ Hd; iintro Hd
  iapply (wp_load_snd c false 0 0 rfl rfl) $$ Hsn; iintro Hsn
  iapply (wp_store_snd c false 0 0 rfl rfl (sent m false 2 0 c) rfl) $$ Hsn; iintro Hsn
  iapply (wp_done c)
  iapply Hk
  iframe

/-- That landing sent on; the second round's second clockwise send slot comes back. -/
theorem p17_spec {Q : _ → sProp 𝕄} (v5 v7 : BitVec 32) :
    iprop(ctx m K ∗ OW c 9 ∗ slot false 0 0 (sent m false 2 0 c) c ∗ sendGo false 2 0 c ∗ sndPos false 0 0 c 1 ∗ reached ER (sndCell false 0 0 c) 1
        ∗ sndOut true 1 1 c)
      ⊢ iprop(((OW c 10 ∗ sndOut false 2 0 c ∗ sndBack true 1 1 c) -∗ Q ⟨⟩) -∗ WP c (p17 c v5 v7) Q) := by
  unfold p17
  simp only [k0_part17_eq_skeleton]; unfold k0_part17_skel
  simp only [Prog.lift, Prog.bind_op, Prog.bind_ret, Prog.pure_eq_ret]
  iintro ⟨#HC, HO, Hsn, Hg, Hps, Hre, Hr⟩ Hk
  iapply (wp_go m K c _ false 2 0 9 (dev12_eq c) rfl rfl rfl rfl rfl) $$ [Hsn Hg HO Hps Hre]
  · iframe HC
    isplitl [Hsn]; · iexact Hsn
    isplitl [Hg]; · iexact Hg
    isplitl [HO]; · iexact HO
    isplitl [Hps] <;> iassumption
  iintro ⟨Hcr, HO⟩
  iapply (wp_back m K c true 1 1 10 rfl rfl) $$ [Hr HO]
  · iframe; iexact HC
  iintro ⟨HO, Hr⟩
  iapply (wp_done c)
  iapply Hk
  iframe

/-- The second round's second clockwise landing, added and sent on. -/
theorem p18_spec {Q : _ → sProp 𝕄} (v7 : BitVec 32) :
    iprop(ctx m K ∗ OW c 10 ∗ rcvWait true 1 1 c ∗ slot true 0 1 (fin m 1 true c) c ∗ sendGo true 2 1 c ∗ sndPos true 0 1 c 1
        ∗ reached ER (sndCell true 0 1 c) 1)
      ⊢ iprop(((OW c 11 ∗ rcvDone m true 1 1 c ∗ sndOut true 2 1 c) -∗ Q ⟨⟩) -∗ WP c (p18 c v7) Q) := by
  unfold p18
  simp only [k0_part18_eq_skeleton]; unfold k0_part18_skel
  simp only [Prog.lift, Prog.bind_op, Prog.bind_ret, Prog.pure_eq_ret]
  iintro ⟨#HC, HO, Hw, Hsn, Hg, Hps, Hre⟩ Hk
  iapply (wp_land m K c true 1 1 10 rfl rfl (by decide)) $$ [Hw HO]
  · iframe; iexact HC
  iintro ⟨HO, Hd⟩
  iapply (wp_load_snd c true 0 1 rfl rfl) $$ Hsn; iintro Hsn
  iapply (wp_load_land m c true 1 1 rfl rfl) $$ Hd; iintro Hd
  iapply (wp_load_snd c true 0 1 rfl rfl) $$ Hsn; iintro Hsn
  iapply (wp_store_snd c true 0 1 rfl rfl (sent m true 2 1 c) rfl) $$ Hsn; iintro Hsn
  iapply (wp_go m K c _ true 2 1 10 (dev13_eq c) rfl rfl rfl rfl rfl) $$ [Hsn Hg HO Hps Hre]
  · iframe HC
    isplitl [Hsn]; · iexact Hsn
    isplitl [Hg]; · iexact Hg
    isplitl [HO]; · iexact HO
    isplitl [Hps] <;> iassumption
  iintro ⟨Hcr, HO⟩
  iapply (wp_done c)
  iapply Hk
  iframe

/-- The second round's second counter-clockwise landing, added. -/
theorem p19_spec {Q : _ → sProp 𝕄} (v5 : BitVec 32) :
    iprop(ctx m K ∗ OW c 11 ∗ sndOut false 1 1 c ∗ rcvWait false 1 1 c ∗ slot false 0 1 (fin m 1 false c) c)
      ⊢ iprop(((OW c 11 ∗ sndBack false 1 1 c ∗ rcvDone m false 1 1 c ∗ slot false 0 1 (sent m false 2 1 c) c) -∗ Q ⟨⟩) -∗ WP c (p19 v5) Q) := by
  unfold p19
  simp only [k0_part19_eq_skeleton]; unfold k0_part19_skel
  simp only [Prog.lift, Prog.bind_op, Prog.bind_ret, Prog.pure_eq_ret]
  iintro ⟨#HC, HO, Hr, Hw, Hsn⟩ Hk
  iapply (wp_back m K c false 1 1 11 rfl rfl) $$ [Hr HO]
  · iframe; iexact HC
  iintro ⟨HO, Hr⟩
  iapply (wp_land m K c false 1 1 11 rfl rfl (by decide)) $$ [Hw HO]
  · iframe; iexact HC
  iintro ⟨HO, Hd⟩
  iapply (wp_load_snd c false 0 1 rfl rfl) $$ Hsn; iintro Hsn
  iapply (wp_load_land m c false 1 1 rfl rfl) $$ Hd; iintro Hd
  iapply (wp_load_snd c false 0 1 rfl rfl) $$ Hsn; iintro Hsn
  iapply (wp_store_snd c false 0 1 rfl rfl (sent m false 2 1 c) rfl) $$ Hsn; iintro Hsn
  iapply (wp_done c)
  iapply Hk
  iframe

end Cert.RingProof
-- ==== Proof.PartsD.lean ====
/-
# Parts 20 to 25: chunk 0, the last round's landings, and the results copied out
-/
module

public import proofs.«01_k».proof.Proof.PartsC

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (K : Dev nD × CK → ℕ) (c : Dev nD)

theorem smemLoadElt_bind {α : Type} {ms : Memref sig .tc .smem S1 .f32} {r : Rect S1} {h : (ms.access r).Loads} {x : r.shape.Idx}
    (k : Elt F .f32 → Prog (TpuEff nD τ sig (Elt F) Λ₀ .tc) α) :
    ((smemLoadElt ms r h x .ret : Prog (TpuEff nD τ sig (Elt F) Λ₀ .tc) (Elt F .f32)) >>= k) = smemLoadElt ms r h x k := rfl
theorem one_idx (x y : S1.Idx) : x = y := by
  funext a; fin_cases a; exact Fin.ext (by have h : (x 0).val < 1 := (x 0).isLt; have h' : (y 0).val < 1 := (y 0).isLt; show (x 0).val = (y 0).val; omega)
/-- The scale factors' buffers hold one number each. -/
theorem read_sx (f : Vec F S1 .f32) {inb} (x : S1.Idx) : (sxM.access (Rect.unit (s := S1) ![0] S1.size inb)).read (Elt F) f x = f (ix1 (0 : Fin 1)) := by
  show f _ = f _
  exact congrArg f (one_idx _ _)
theorem read_sw (f : Vec F S1 .f32) {inb} (x : S1.Idx) : (swM.access (Rect.unit (s := S1) ![0] S1.size inb)).read (Elt F) f x = f (ix1 (0 : Fin 1)) := by
  show f _ = f _
  exact congrArg f (one_idx _ _)

theorem wp_sx {α : Type} {Q : α → sProp 𝕄} (f : Vec F S1 .f32) {inb} {h : (sxM.access (Rect.unit (s := S1) ![0] S1.size inb)).Loads}
    {x : (Rect.unit (s := S1) ![0] S1.size inb).shape.Idx} {K : Elt F .f32 → Prog (TpuEff nD τ sig (Elt F) Λ₀ .tc) α} :
    iprop(sxM.view.loc (c : Thread nD τ) ↦{fullShare} f)
      ⊢ iprop(((sxM.view.loc (c : Thread nD τ) ↦{fullShare} f) -∗ WP c (K (f (ix1 (0 : Fin 1)))) Q)
        -∗ WP c (smemLoadElt sxM (Rect.unit (s := S1) ![0] S1.size inb) h x K) Q) :=
  wp_scale c sxM f (f (ix1 (0 : Fin 1))) (read_sx f x)
theorem wp_sw {α : Type} {Q : α → sProp 𝕄} (f : Vec F S1 .f32) {inb} {h : (swM.access (Rect.unit (s := S1) ![0] S1.size inb)).Loads}
    {x : (Rect.unit (s := S1) ![0] S1.size inb).shape.Idx} {K : Elt F .f32 → Prog (TpuEff nD τ sig (Elt F) Λ₀ .tc) α} :
    iprop(swM.view.loc (c : Thread nD τ) ↦{fullShare} f)
      ⊢ iprop(((swM.view.loc (c : Thread nD τ) ↦{fullShare} f) -∗ WP c (K (f (ix1 (0 : Fin 1)))) Q)
        -∗ WP c (smemLoadElt swM (Rect.unit (s := S1) ![0] S1.size inb) h x K) Q) :=
  wp_scale c swM f (f (ix1 (0 : Fin 1))) (read_sw f x)

/-- The last send; chunk 0 arrives, its partial products and the scale factor are computed. -/
theorem p20_spec {Q : _ → sProp 𝕄} (v5 : BitVec 32) :
    iprop(ctx m K ∗ OW c 11 ∗ slot false 0 1 (sent m false 2 1 c) c ∗ sendGo false 2 1 c ∗ sndPos false 0 1 c 1 ∗ reached ER (sndCell false 0 1 c) 1
        ∗ inFl m c 0 ∗ wqAt m c ∗ (sxM.view.loc (c : Thread nD τ) ↦{fullShare} sxstg m c) ∗ (swM.view.loc (c : Thread nD τ) ↦{fullShare} swstg m c))
      ⊢ iprop(((OW c 12 ∗ sndOut false 2 1 c ∗ (stAt m c 0 ∗ xAt m c 0 ∗ stSem c 0) ∗ wqAt m c
          ∗ (sxM.view.loc (c : Thread nD τ) ↦{fullShare} sxstg m c) ∗ (swM.view.loc (c : Thread nD τ) ↦{fullShare} swstg m c))
          -∗ Q ⟨k0_pay29 (Ab m c 0) (Bw m c true), k0_pay30 (Ab m c 0) (Bw m c false), scl m c⟩) -∗ WP c (p20 c v5) Q) := by
  unfold p20
  simp only [k0_part20_eq_skeleton]; unfold k0_part20_skel
  simp only [smemLoad, Prog.lift, Prog.bind_op, Prog.bind_ret, Prog.pure_eq_ret]
  iintro ⟨#HC, HO, Hsn, Hg, Hps, Hre, Hf, Hwq, Hsx, Hsw⟩ Hk
  iapply (wp_go m K c _ false 2 1 11 (dev14_eq c) rfl rfl rfl rfl rfl) $$ [Hsn Hg HO Hps Hre]
  · iframe HC
    isplitl [Hsn]; · iexact Hsn
    isplitl [Hg]; · iexact Hg
    isplitl [HO]; · iexact HO
    isplitl [Hps] <;> iassumption
  iintro ⟨Hcr, HO⟩
  iapply (wp_wait_in m K c 0 12 rfl rfl) $$ [Hf HO]
  · iframe; iexact HC
  iintro ⟨H0, Hx, Hs, HO⟩
  iapply (wp_load_st m c 0 rfl) $$ H0; iintro H0
  iapply (wp_load_wq m c true rfl) $$ Hwq; iintro Hwq
  iapply (wp_load_st m c 0 rfl) $$ H0; iintro H0
  iapply (wp_load_wq m c false rfl) $$ Hwq; iintro Hwq
  erw [smemLoadElt_bind]
  iapply (wp_sx c (sxstg m c)) $$ Hsx; iintro Hsx
  erw [smemLoadElt_bind]
  iapply (wp_sw c (swstg m c)) $$ Hsw; iintro Hsw
  rw [show k0_pay31 (sxstg m c (ix1 (0 : Fin 1))) (swstg m c (ix1 (0 : Fin 1))) = scl m c from rfl]
  iapply (wp_done c)
  iapply Hk
  iframe

/-- The last clockwise landing of the first half, added and scaled. -/
theorem p21_spec {Q : _ → sProp 𝕄} (v7 : BitVec 32) :
    iprop(ctx m K ∗ OW c 12 ∗ sndOut true 2 0 c ∗ rcvWait true 2 0 c ∗ hfAny c 3 0)
      ⊢ iprop(((OW c 12 ∗ sndBack true 2 0 c ∗ rcvDone m true 2 0 c ∗ owns (c : Thread nD τ) (hfSlot 3 0) fullShare (outH m true 0 c))
          -∗ Q ⟨⟩) -∗ WP c (p21 v7 (k0_pay29 (Ab m c 0) (Bw m c true)) (scl m c)) Q) := by
  unfold p21
  simp only [k0_part21_eq_skeleton]; unfold k0_part21_skel
  simp only [Prog.lift, Prog.bind_op, Prog.bind_ret, Prog.pure_eq_ret]
  unfold hfAny
  iintro ⟨#HC, HO, Hr, Hw, ⟨%X, Hh⟩⟩ Hk
  iapply (wp_back m K c true 2 0 12 rfl rfl) $$ [Hr HO]
  · iframe; iexact HC
  iintro ⟨HO, Hr⟩
  iapply (wp_land m K c true 2 0 12 rfl rfl (by decide)) $$ [Hw HO]
  · iframe; iexact HC
  iintro ⟨HO, Hd⟩
  iapply (wp_load_land m c true 2 0 rfl rfl) $$ Hd; iintro Hd
  iapply (wp_load_hfo c 3 0 rfl) $$ Hh; iintro Hh
  iapply (wp_store_hf c 3 0 rfl (outH m true 0 c) rfl) $$ Hh; iintro Hh
  iapply (wp_done c)
  iapply Hk
  iframe

/-- It is copied out; the last counter-clockwise landing of the first half arrives. -/
theorem p22_spec {Q : _ → sProp 𝕄} (v5 : BitVec 32) :
    iprop(ctx m K ∗ OW c 12 ∗ owns (c : Thread nD τ) (hfSlot 3 0) fullShare (outH m true 0 c) ∗ oAny c true 0 ∗ stSem c 0
        ∗ sndOut false 2 0 c ∗ rcvWait false 2 0 c)
      ⊢ iprop(((OW c 12 ∗ outFl m c true 0 ∗ sndBack false 2 0 c ∗ rcvDone m false 2 0 c)
          -∗ Q ⟨k0_pay33 (k0_pay30 (Ab m c 0) (Bw m c false)), sent m false 2 0 (src false c)⟩)
          -∗ WP c (p22 v5 (k0_pay30 (Ab m c 0) (Bw m c false))) Q) := by
  unfold p22
  simp only [k0_part22_eq_skeleton]; unfold k0_part22_skel
  simp only [Prog.lift, Prog.bind_op, Prog.bind_ret, Prog.pure_eq_ret]
  iintro ⟨#HC, HO, Hh, Ho, Hs, Hr, Hw⟩ Hk
  iapply (wp_copy_out m c true 0 rfl rfl rfl) $$ [Hh Ho Hs]
  · isplitl [Hh]; · iexact Hh
    isplitl [Ho] <;> iassumption
  iintro Hf
  iapply (wp_back m K c false 2 0 12 rfl rfl) $$ [Hr HO]
  · iframe; iexact HC
  iintro ⟨HO, Hr⟩
  iapply (wp_land m K c false 2 0 12 rfl rfl (by decide)) $$ [Hw HO]
  · iframe; iexact HC
  iintro ⟨HO, Hd⟩
  iapply (wp_load_land m c false 2 0 rfl rfl) $$ Hd; iintro Hd
  iapply (wp_done c)
  iapply Hk
  iframe

/-- It is added, scaled and copied out. -/
theorem p23_spec {Q : _ → sProp 𝕄} (v7 : BitVec 32) :
    iprop(ctx m K ∗ OW c 12 ∗ hfAny c 1 0 ∗ oAny c false 0 ∗ stSem c 2 ∗ sndOut true 2 1 c)
      ⊢ iprop(((OW c 12 ∗ outFl m c false 0 ∗ sndBack true 2 1 c) -∗ Q ⟨⟩)
          -∗ WP c (p23 v7 (scl m c) (k0_pay33 (k0_pay30 (Ab m c 0) (Bw m c false))) (sent m false 2 0 (src false c))) Q) := by
  unfold p23
  simp only [k0_part23_eq_skeleton]; unfold k0_part23_skel
  simp only [Prog.lift, Prog.bind_op, Prog.bind_ret, Prog.pure_eq_ret]
  unfold hfAny
  iintro ⟨#HC, HO, ⟨%X, Hh⟩, Ho, Hs, Hr⟩ Hk
  iapply (wp_load_hfo c 1 0 rfl) $$ Hh; iintro Hh
  iapply (wp_store_hf c 1 0 rfl (outH m false 0 c) rfl) $$ Hh; iintro Hh
  iapply (wp_copy_out m c false 0 rfl rfl rfl) $$ [Hh Ho Hs]
  · isplitl [Hh]; · iexact Hh
    isplitl [Ho] <;> iassumption
  iintro Hf
  iapply (wp_back m K c true 2 1 12 rfl rfl) $$ [Hr HO]
  · iframe; iexact HC
  iintro ⟨HO, Hr⟩
  iapply (wp_done c)
  iapply Hk
  iframe

/-- The last clockwise landing, added, scaled and copied out. -/
theorem p24_spec {Q : _ → sProp 𝕄} :
    iprop(ctx m K ∗ OW c 12 ∗ rcvWait true 2 1 c ∗ hfAny c 3 1 ∗ oAny c true 1 ∗ stSem c 1 ∗ sndOut false 2 1 c)
      ⊢ iprop(((OW c 12 ∗ rcvDone m true 2 1 c ∗ outFl m c true 1 ∗ sndBack false 2 1 c) -∗ Q ⟨⟩)
          -∗ WP c (p24 (k0_pay29 (Ab m c 0) (Bw m c true)) (scl m c)) Q) := by
  unfold p24
  simp only [k0_part24_eq_skeleton]; unfold k0_part24_skel
  simp only [Prog.lift, Prog.bind_op, Prog.bind_ret, Prog.pure_eq_ret]
  unfold hfAny
  iintro ⟨#HC, HO, Hw, ⟨%X, Hh⟩, Ho, Hs, Hr⟩ Hk
  iapply (wp_land m K c true 2 1 12 rfl rfl (by decide)) $$ [Hw HO]
  · iframe; iexact HC
  iintro ⟨HO, Hd⟩
  iapply (wp_load_land m c true 2 1 rfl rfl) $$ Hd; iintro Hd
  iapply (wp_load_hfo c 3 1 rfl) $$ Hh; iintro Hh
  iapply (wp_store_hf c 3 1 rfl (outH m true 1 c) rfl) $$ Hh; iintro Hh
  iapply (wp_copy_out m c true 1 rfl rfl rfl) $$ [Hh Ho Hs]
  · isplitl [Hh]; · iexact Hh
    isplitl [Ho] <;> iassumption
  iintro Hf
  iapply (wp_back m K c false 2 1 12 rfl rfl) $$ [Hr HO]
  · iframe; iexact HC
  iintro ⟨HO, Hr⟩
  iapply (wp_done c)
  iapply Hk
  iframe

/-- The last counter-clockwise landing, added, scaled and copied out. -/
theorem p25_spec {Q : _ → sProp 𝕄} (v5 : BitVec 32) :
    iprop(ctx m K ∗ OW c 12 ∗ rcvWait false 2 1 c ∗ hfAny c 1 1 ∗ oAny c false 1 ∗ stSem c 3)
      ⊢ iprop(((OW c 12 ∗ rcvDone m false 2 1 c ∗ outFl m c false 1) -∗ Q ⟨⟩)
          -∗ WP c (p25 v5 (k0_pay30 (Ab m c 0) (Bw m c false)) (scl m c)) Q) := by
  unfold p25
  simp only [k0_part25_eq_skeleton]; unfold k0_part25_skel
  simp only [Prog.lift, Prog.bind_op, Prog.bind_ret, Prog.pure_eq_ret]
  unfold hfAny
  iintro ⟨#HC, HO, Hw, ⟨%X, Hh⟩, Ho, Hs⟩ Hk
  iapply (wp_land m K c false 2 1 12 rfl rfl (by decide)) $$ [Hw HO]
  · iframe; iexact HC
  iintro ⟨HO, Hd⟩
  iapply (wp_load_land m c false 2 1 rfl rfl) $$ Hd; iintro Hd
  iapply (wp_load_hfo c 1 1 rfl) $$ Hh; iintro Hh
  iapply (wp_store_hf c 1 1 rfl (outH m false 1 c) rfl) $$ Hh; iintro Hh
  iapply (wp_copy_out m c false 1 rfl rfl rfl) $$ [Hh Ho Hs]
  · isplitl [Hh]; · iexact Hh
    isplitl [Ho] <;> iassumption
  iintro Hf
  iapply (wp_done c)
  iapply Hk
  iframe

end Cert.RingProof
-- ==== Proof.Mem.lean ====
/-
# The buffers whole and in pieces

Each buffer the kernel uses is held in pieces while it runs and whole before and after.
-/
module

public import proofs.«01_k».proof.Proof.Rules
public import Idealize.ShloMosaic.Lib.Ring

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- What is owned at some contents, forgetting which. -/
theorem owns_any {sp : Space} {sh : Shape} {e : EltTy} (ms : Memref sig .tc sp sh e) (X : sh.Idx → Elt F e) :
    (owns (c : Thread nD τ) ms fullShare X : sProp 𝕄) ⊢ iprop(∃ X, owns (c : Thread nD τ) ms fullShare (X : sh.Idx → Elt F e)) := by
  iintro H; iexists X; iexact H
theorem owns_pt {sp : Space} {sh : Shape} {e : EltTy} (ms : Memref sig .tc sp sh e) :
    (iprop(∃ X, owns (c : Thread nD τ) ms fullShare (X : sh.Idx → Elt F e)) : sProp 𝕄) ⊢ iprop(∃ f, ms.view.loc (c : Thread nD τ) ↦[ms.view.set]{fullShare} f) := by
  unfold owns
  iintro ⟨%X, %f, -, H⟩; iexists f; iexact H

section Slots

variable {sp : Space} {sh : Shape} {e : EltTy} (ms : Memref sig .tc sp sh e) {T : Type} [Fintype T] [DecidableEq T] (r : T → Rect sh)
  (hr : ∀ t a, (r t).stride a = 1) (hw : ms.view.set = Finset.univ)
  (hd : ∀ t t', t ≠ t' → Disjoint (r t).set (r t').set)
  (hcov : (Finset.univ : Finset T).biUnion (fun t => (r t).set) = Finset.univ)
include hw hd hcov

/-- A buffer at any contents is each of its slots at any contents, -/
theorem slots_split : (iprop(∃ f, ms.view.loc (c : Thread nD τ) ↦{fullShare} f) : sProp 𝕄)
    ⊢ bigSep Finset.univ fun t => iprop(∃ X, owns (c : Thread nD τ) (ms.slice (r t) (hr t)) fullShare (X : (r t).shape.Idx → Elt F e)) := by
  iintro ⟨%f, H⟩
  rw [← hw, pointsTo_rects (c : Thread nD τ) ms fullShare r hr hd hcov f]
  exact bigSep_mono fun t _ => owns_any c _ _

/-- and back. -/
theorem slots_join (f₀ : Buf (Elt F) (ms.view.loc (c : Thread nD τ))) : (bigSep Finset.univ fun t => iprop(∃ X, owns (c : Thread nD τ) (ms.slice (r t) (hr t)) fullShare (X : (r t).shape.Idx → Elt F e)))
    ⊢ (iprop(∃ f, ms.view.loc (c : Thread nD τ) ↦{fullShare} f) : sProp 𝕄) := by
  refine BIBase.Entails.trans (bigSep_mono fun t _ => owns_pt c (ms.slice (r t) (hr t)))
    (Ring.pointsTo_blocks_join_exists (ℓ := ms.view.loc (c : Thread nD τ)) (fun t => (ms.view.slice (r t)).set) (fun t t' h => ?_) ?_ f₀)
  · rw [View.set_slice, View.set_slice]; exact (Finset.disjoint_map _).mpr (hd t t' h)
  · ext i
    refine ⟨fun _ => Finset.mem_univ _, fun _ => ?_⟩
    obtain ⟨x, -, rfl⟩ := Finset.mem_map.1 (hw.symm ▸ Finset.mem_univ i : i ∈ ms.view.set)
    obtain ⟨t, -, hx⟩ := Finset.mem_biUnion.mp (hcov.symm ▸ Finset.mem_univ x)
    exact Finset.mem_biUnion.mpr ⟨t, Finset.mem_univ _, by rw [View.set_slice]; exact Finset.mem_map_of_mem _ hx⟩

end Slots

/-! ### The send and the landing slots -/

theorem mem_sndR (q j : Fin 2) (i : S2x2x512x1024.Idx) : i ∈ (sndR q j).set ↔ (i 0).val = q.val ∧ (i 1).val = j.val := by
  rw [Rect.mem_set_unit, Fin.forall_fin_succ, Fin.forall_fin_succ, Fin.forall_fin_two]
  have h2 : (i 2).val < 512 := (i 2).2
  have h3 : (i 3).val < 1024 := (i 3).2
  show (q.val ≤ (i 0).val ∧ (i 0).val < q.val + 1) ∧ (j.val ≤ (i 1).val ∧ (i 1).val < j.val + 1)
    ∧ (0 ≤ (i 2).val ∧ (i 2).val < 0 + 512) ∧ (0 ≤ (i 3).val ∧ (i 3).val < 0 + 1024) ↔ _
  omega
theorem mem_rcvR (s : Fin 3) (j : Fin 2) (i : S3x2x512x1024.Idx) : i ∈ (rcvR s j).set ↔ (i 0).val = s.val ∧ (i 1).val = j.val := by
  rw [Rect.mem_set_unit, Fin.forall_fin_succ, Fin.forall_fin_succ, Fin.forall_fin_two]
  have h2 : (i 2).val < 512 := (i 2).2
  have h3 : (i 3).val < 1024 := (i 3).2
  show (s.val ≤ (i 0).val ∧ (i 0).val < s.val + 1) ∧ (j.val ≤ (i 1).val ∧ (i 1).val < j.val + 1)
    ∧ (0 ≤ (i 2).val ∧ (i 2).val < 0 + 512) ∧ (0 ≤ (i 3).val ∧ (i 3).val < 0 + 1024) ↔ _
  omega

theorem snd_disj (t t' : Fin 2 × Fin 2) (h : t ≠ t') : Disjoint (sndR t.1 t.2).set (sndR t'.1 t'.2).set :=
  Finset.disjoint_left.2 fun i hi hi' => h (Prod.ext
    (Fin.ext (((mem_sndR _ _ i).1 hi).1.symm.trans ((mem_sndR _ _ i).1 hi').1)) (Fin.ext (((mem_sndR _ _ i).1 hi).2.symm.trans ((mem_sndR _ _ i).1 hi').2)))
theorem snd_cov : (Finset.univ : Finset (Fin 2 × Fin 2)).biUnion (fun t => (sndR t.1 t.2).set) = Finset.univ := by
  ext i; exact ⟨fun _ => Finset.mem_univ _, fun _ => Finset.mem_biUnion.2 ⟨(i 0, i 1), Finset.mem_univ _, (mem_sndR _ _ i).2 ⟨rfl, rfl⟩⟩⟩
theorem rcv_disj (t t' : Fin 3 × Fin 2) (h : t ≠ t') : Disjoint (rcvR t.1 t.2).set (rcvR t'.1 t'.2).set :=
  Finset.disjoint_left.2 fun i hi hi' => h (Prod.ext
    (Fin.ext (((mem_rcvR _ _ i).1 hi).1.symm.trans ((mem_rcvR _ _ i).1 hi').1)) (Fin.ext (((mem_rcvR _ _ i).1 hi).2.symm.trans ((mem_rcvR _ _ i).1 hi').2)))
theorem rcv_cov : (Finset.univ : Finset (Fin 3 × Fin 2)).biUnion (fun t => (rcvR t.1 t.2).set) = Finset.univ := by
  ext i; exact ⟨fun _ => Finset.mem_univ _, fun _ => Finset.mem_biUnion.2 ⟨(i 0, i 1), Finset.mem_univ _, (mem_rcvR _ _ i).2 ⟨rfl, rfl⟩⟩⟩

theorem snd_whole (d : Bool) : (sndM d).view.set = Finset.univ := by cases d <;> exact View.set_whole _
theorem rcv_whole (d : Bool) : (rcvM d).view.set = Finset.univ := by cases d <;> exact View.set_whole _

/-- One direction's send buffer in its four slots. -/
theorem snd_split (d : Bool) : (iprop(∃ f, (sndM d).view.loc (c : Thread nD τ) ↦{fullShare} f) : sProp 𝕄)
    ⊢ iprop(sndAny d 0 0 c ∗ sndAny d 0 1 c ∗ sndAny d 1 0 c ∗ sndAny d 1 1 c) := by
  refine (slots_split c (sndM d) (fun t : Fin 2 × Fin 2 => sndR t.1 t.2) (fun _ _ => rfl) (snd_whole d) snd_disj snd_cov).trans ?_
  rw [bigSep_univ_eq_bigSepL [(0, 0), (0, 1), (1, 0), (1, 1)] (by decide) (by decide)]
  exact Entails.refl _
include m in
theorem snd_join (d : Bool) : iprop(sndAny d 0 0 c ∗ sndAny d 0 1 c ∗ sndAny d 1 0 c ∗ sndAny d 1 1 c)
    ⊢ (iprop(∃ f, (sndM d).view.loc (c : Thread nD τ) ↦{fullShare} f) : sProp 𝕄) := by
  refine BIBase.Entails.trans ?_ (slots_join c (sndM d) (fun t : Fin 2 × Fin 2 => sndR t.1 t.2) (fun _ _ => rfl) (snd_whole d) snd_disj snd_cov (m _))
  rw [bigSep_univ_eq_bigSepL [(0, 0), (0, 1), (1, 0), (1, 1)] (by decide) (by decide)]
  exact Entails.refl _
/-- One direction's landing buffer in its six slots, and back from what has landed. -/
theorem rcv_split (d : Bool) : (iprop(∃ f, (rcvM d).view.loc (c : Thread nD τ) ↦{fullShare} f) : sProp 𝕄) ⊢ landing d c :=
  slots_split c (rcvM d) (fun t : Fin 3 × Fin 2 => rcvR t.1 t.2) (fun _ _ => rfl) (rcv_whole d) rcv_disj rcv_cov
theorem rcv_join (d : Bool) : iprop(rcvAt m d 0 0 c ∗ rcvAt m d 0 1 c ∗ rcvAt m d 1 0 c ∗ rcvAt m d 1 1 c ∗ rcvAt m d 2 0 c ∗ rcvAt m d 2 1 c)
    ⊢ (iprop(∃ f, (rcvM d).view.loc (c : Thread nD τ) ↦{fullShare} f) : sProp 𝕄) := by
  refine BIBase.Entails.trans ?_ (slots_join c (rcvM d) (fun t : Fin 3 × Fin 2 => rcvR t.1 t.2) (fun _ _ => rfl) (rcv_whole d) rcv_disj rcv_cov (m _))
  refine BIBase.Entails.trans ?_ (bigSep_mono (Φ := fun t : Fin 3 × Fin 2 => rcvAt m d t.1 t.2 c) fun t _ => ?_)
  · rw [bigSep_univ_eq_bigSepL [(0, 0), (0, 1), (1, 0), (1, 1), (2, 0), (2, 1)] (by decide) (by decide)]
    exact Entails.refl _
  · unfold rcvAt
    exact owns_any c _ _

/-! ### The staging buffer -/

theorem st_disj (t t' : Fin 4) (h : t ≠ t') : Disjoint (stQ t).view.set (stQ t').view.set := by
  rw [st_set, st_set]
  exact Finset.disjoint_left.2 fun i hi hi' => h (Fin.ext (((mem_stR _ i).1 hi).symm.trans ((mem_stR _ i).1 hi')))
theorem st_cov : (Finset.univ : Finset (Fin 4)).biUnion (β := S4x1024x1024.Idx) (fun t : Fin 4 => (stQ t).view.set) = Finset.univ := by
  ext i; exact ⟨fun _ => Finset.mem_univ _, fun _ => Finset.mem_biUnion.2 ⟨(i 0 : Fin 4), Finset.mem_univ _, (st_set (i 0)).symm ▸ (mem_stR (i 0) i).2 rfl⟩⟩

/-- A piece at some contents. -/
theorem pt_any {ℓ : Loc nD τ sig} {S : Finset (Idx ℓ)} (f : Buf (Elt F) ℓ) : (iprop(ℓ ↦[S]{fullShare} f) : sProp 𝕄) ⊢ iprop(∃ f, ℓ ↦[S]{fullShare} f) := by
  iintro H; iexists f; iexact H
theorem st_split : (iprop(∃ f, stM.view.loc (c : Thread nD τ) ↦{fullShare} f) : sProp 𝕄)
    ⊢ iprop(stAny c 0 ∗ stAny c 1 ∗ stAny c 2 ∗ stAny c 3) := by
  refine exists_elim fun f => ?_
  rw [Ring.pointsTo_blocks (ℓ := stM.view.loc (c : Thread nD τ)) (fun t : Fin 4 => (stQ t).view.set) st_disj st_cov f,
    bigSep_univ_eq_bigSepL [0, 1, 2, 3] (by decide) (by decide)]
  exact BIClass.sep_mono (pt_any f) (BIClass.sep_mono (pt_any f) (BIClass.sep_mono (pt_any f) (pt_any f)))

include m in
theorem st_join : iprop(stAny c 0 ∗ stAny c 1 ∗ stAny c 2 ∗ stAny c 3)
    ⊢ (iprop(∃ f, stM.view.loc (c : Thread nD τ) ↦{fullShare} f) : sProp 𝕄) := by
  refine BIBase.Entails.trans ?_ (Ring.pointsTo_blocks_join_exists (fun t : Fin 4 => (stQ t).view.set) st_disj st_cov (m _))
  rw [bigSep_univ_eq_bigSepL [0, 1, 2, 3] (by decide) (by decide)]
  exact Entails.refl _

theorem hf_disj (k : Fin 4) : Disjoint (hfSlot k 0).view.set (hfSlot k 1).view.set := by
  rw [hf_set, hf_set]
  refine Finset.disjoint_left.2 fun i hi hi' => ?_
  have h := ((mem_hfR k 0 i).1 hi).2.2
  have h' := ((mem_hfR k 1 i).1 hi').2.1
  change (i 1).val < 0 + 512 at h
  change 512 ≤ (i 1).val at h'
  omega
theorem hf_union (k : Fin 4) : (hfSlot k 0).view.set ∪ (hfSlot k 1).view.set = (stQ k).view.set := by
  rw [hf_set, hf_set, st_set]
  ext i
  rw [Finset.mem_union, mem_hfR, mem_hfR, mem_stR]
  have h1 : (i 1).val < 1024 := (i 1).2
  show (_ ∧ 0 ≤ (i 1).val ∧ (i 1).val < 0 + 512) ∨ (_ ∧ 512 ≤ (i 1).val ∧ (i 1).val < 512 + 512) ↔ _
  omega

/-- A row block in its two halves, and back. -/
theorem stAt_halves (k : Fin 4) : stAt m c k ⊢ iprop(hfAny c k 0 ∗ hfAny c k 1) := by
  unfold stAt hfAny
  rw [← hf_union]
  iintro H
  ihave H := (pointsTo_union (hf_disj k)).1 $$ H
  icases H with ⟨H0, H1⟩
  isplitl [H0]
  · iexists _; iapply (owns_intro (c : Thread nD τ) (hfSlot k 0) fullShare (stageF m c)) $$ H0
  · iexists _; iapply (owns_intro (c : Thread nD τ) (hfSlot k 1) fullShare (stageF m c)) $$ H1
theorem halves_stAny (k : Fin 4) : iprop(hfAny c k 0 ∗ hfAny c k 1) ⊢ (stAny c k : sProp 𝕄) := by
  unfold hfAny owns stAny
  iintro ⟨⟨%X, %f, -, H0⟩, ⟨%Y, %g, -, H1⟩⟩
  rw [← hf_union]
  iexists ((hfSlot k 1).view.set.piecewise g f)
  iapply (pointsTo_join (hf_disj k))
  isplitl [H0]
  · iexact H0
  · iexact H1
theorem stAt_any (k : Fin 4) : stAt m c k ⊢ stAny c k := by
  unfold stAt stAny
  iintro H; iexists _; iexact H

/-! ### The result -/

theorem mem_oR (h : Fin 2) (d : Bool) (i : S1024x2048.Idx) :
    i ∈ (oR h d).set ↔ (half h ≤ (i 0).val ∧ (i 0).val < half h + 512) ∧ (col d ≤ (i 1).val ∧ (i 1).val < col d + 1024) := by
  rw [Rect.mem_set_unit, Fin.forall_fin_two]
  exact Iff.rfl
theorem o_set (h : Fin 2) (d : Bool) : (oBlk h d).view.set = (oR h d).set := View.set_slice_whole _ _
theorem o_disj (t t' : Fin 2 × Bool) (h : t ≠ t') : Disjoint (oBlk t.1 t.2).view.set (oBlk t'.1 t'.2).view.set := by
  rw [o_set, o_set]
  refine Finset.disjoint_left.2 fun i hi hi' => h ?_
  rw [mem_oR] at hi hi'
  obtain ⟨a, b⟩ := t; obtain ⟨a', b'⟩ := t'
  have ha : a = a' := by
    have := hi.1; have := hi'.1
    fin_cases a <;> fin_cases a' <;> first | rfl | (exfalso; simp only [half] at *; omega)
  have hb : b = b' := by
    have := hi.2; have := hi'.2
    cases b <;> cases b' <;> first | rfl | (exfalso; simp only [col] at *; omega)
  rw [ha, hb]
theorem o_cov : (Finset.univ : Finset (Fin 2 × Bool)).biUnion (β := S1024x2048.Idx) (fun t : Fin 2 × Bool => (oBlk t.1 t.2).view.set) = Finset.univ := by
  ext i
  refine ⟨fun _ => Finset.mem_univ _, fun _ => Finset.mem_biUnion.2 ⟨(if (i 0).val < 512 then 0 else 1, decide ((i 1).val < 1024)), Finset.mem_univ _, ?_⟩⟩
  rw [o_set, mem_oR]
  have h0 : (i 0).val < 1024 := (i 0).2
  have h1 : (i 1).val < 2048 := (i 1).2
  by_cases a : (i 0).val < 512 <;> by_cases b : (i 1).val < 1024 <;> simp [a, b, half, col] <;> omega

theorem o_split (f : Buf (Elt F) (oM.view.loc (c : Thread nD τ))) : (iprop(oM.view.loc (c : Thread nD τ) ↦{fullShare} f) : sProp 𝕄)
    ⊢ iprop(oAny c true 0 ∗ oAny c false 0 ∗ oAny c true 1 ∗ oAny c false 1) := by
  rw [Ring.pointsTo_blocks (ℓ := oM.view.loc (c : Thread nD τ)) (fun t : Fin 2 × Bool => (oBlk t.1 t.2).view.set) o_disj o_cov f,
    bigSep_univ_eq_bigSepL [(0, true), (0, false), (1, true), (1, false)] (by decide) (by decide)]
  exact BIClass.sep_mono (pt_any f) (BIClass.sep_mono (pt_any f) (BIClass.sep_mono (pt_any f) (pt_any f)))
theorem o_join : iprop(oAt m c true 0 ∗ oAt m c false 0 ∗ oAt m c true 1 ∗ oAt m c false 1)
    ⊢ iprop(oM.view.loc (c : Thread nD τ) ↦{fullShare} outF m c) := by
  rw [Ring.pointsTo_blocks (ℓ := oM.view.loc (c : Thread nD τ)) (fun t : Fin 2 × Bool => (oBlk t.1 t.2).view.set) o_disj o_cov (outF m c),
    bigSep_univ_eq_bigSepL [(0, true), (0, false), (1, true), (1, false)] (by decide) (by decide)]
  exact Entails.refl _

/-! ### The first argument: a share of it for each copy in -/

/-- What a copy's share leaves of the array. -/
def xRest (c : Dev nD) (k : Fin 4) : sProp 𝕄 :=
  iprop(xM.view.loc (c : Thread nD τ) ↦[Finset.univ \ (xBlk c k).view.set]{qx k} m ((c : Thread nD τ).loc main_arg0))
theorem x_share (k : Fin 4) : iprop(xM.view.loc (c : Thread nD τ) ↦{qx k} m ((c : Thread nD τ).loc main_arg0)) ⊣⊢ (iprop(xAt m c k ∗ xRest m c k) : sProp 𝕄) :=
  pointsTo_split_subset (Finset.subset_univ _)
theorem x_four (f : Buf (Elt F) (xM.view.loc (c : Thread nD τ))) : (iprop(xM.view.loc (c : Thread nD τ) ↦{fullShare} f) : sProp 𝕄)
    ⊣⊢ iprop(((xM.view.loc (c : Thread nD τ) ↦{qx 0} f) ∗ (xM.view.loc (c : Thread nD τ) ↦{qx 1} f))
      ∗ ((xM.view.loc (c : Thread nD τ) ↦{qx 2} f) ∗ (xM.view.loc (c : Thread nD τ) ↦{qx 3} f))) := by
  have h₀ := pointsTo_share (Name := ℕ) (U := UU) (Lvl := ℕ) (Ix := Unit) (I := Finset.univ) (f := f) (PosShare.mem_left_op_right fullShare)
  have h₁ := pointsTo_share (Name := ℕ) (U := UU) (Lvl := ℕ) (Ix := Unit) (I := Finset.univ) (f := f) (PosShare.mem_left_op_right fullShare.left)
  have h₂ := pointsTo_share (Name := ℕ) (U := UU) (Lvl := ℕ) (Ix := Unit) (I := Finset.univ) (f := f) (PosShare.mem_left_op_right fullShare.right)
  exact ⟨h₀.1.trans (BIClass.sep_mono h₁.1 h₂.1), (BIClass.sep_mono h₁.2 h₂.2).trans h₀.2⟩
theorem x_split : iprop(xM.view.loc (c : Thread nD τ) ↦{fullShare} m ((c : Thread nD τ).loc main_arg0))
    ⊣⊢ (iprop(((xAt m c 0 ∗ xRest m c 0) ∗ (xAt m c 1 ∗ xRest m c 1)) ∗ ((xAt m c 2 ∗ xRest m c 2) ∗ (xAt m c 3 ∗ xRest m c 3))) : sProp 𝕄) :=
  ⟨(x_four c _).1.trans (BIClass.sep_mono (BIClass.sep_mono (x_share m c 0).1 (x_share m c 1).1) (BIClass.sep_mono (x_share m c 2).1 (x_share m c 3).1)),
    (BIClass.sep_mono (BIClass.sep_mono (x_share m c 0).2 (x_share m c 1).2) (BIClass.sep_mono (x_share m c 2).2 (x_share m c 3).2)).trans (x_four c _).2⟩

end Cert.RingProof
-- ==== Proof.Body.lean ====
/-
# The kernel's body, from what it is given to what it leaves
-/
module

public import proofs.«01_k».proof.Proof.PartsD
public import proofs.«01_k».proof.Proof.Mem

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- What one direction of the ring takes: its send slots, the tokens of its six sends, and what its landings are awaited with. -/
def dirIn (d : Bool) (c : Dev nD) : sProp 𝕄 :=
  iprop((sndAny d 0 0 c ∗ sndAny d 0 1 c ∗ sndAny d 1 0 c ∗ sndAny d 1 1 c)
    ∗ (sendKit d 0 0 c ∗ sendKit d 0 1 c ∗ sendKit d 1 0 c ∗ sendKit d 1 1 c ∗ sendKit d 2 0 c ∗ sendKit d 2 1 c)
    ∗ (sndPos d 0 0 c 0 ∗ sndPos d 0 1 c 0 ∗ sndPos d 1 0 c 0 ∗ sndPos d 1 1 c 0)
    ∗ (rcvWait d 0 0 c ∗ rcvWait d 0 1 c ∗ rcvWait d 1 0 c ∗ rcvWait d 1 1 c ∗ rcvWait d 2 0 c ∗ rcvWait d 2 1 c))
/-- What it leaves. -/
def dirOut (d : Bool) (c : Dev nD) : sProp 𝕄 :=
  iprop((sndAny d 0 0 c ∗ sndAny d 0 1 c ∗ sndAny d 1 0 c ∗ sndAny d 1 1 c)
    ∗ (sndPos d 0 0 c 2 ∗ sndPos d 0 1 c 2 ∗ sndPos d 1 0 c 1 ∗ sndPos d 1 1 c 1)
    ∗ (rcvDone m d 0 0 c ∗ rcvDone m d 0 1 c ∗ rcvDone m d 1 0 c ∗ rcvDone m d 1 1 c ∗ rcvDone m d 2 0 c ∗ rcvDone m d 2 1 c))

/-- A program one part at a time. -/
theorem wp_seq {α β : Type} {Q : β → sProp 𝕄} (p : Prog (TpuEff nD τ sig (Elt F) Λ₀ .tc) α) (k : α → Prog (TpuEff nD τ sig (Elt F) Λ₀ .tc) β) :
    WP c p (fun a => WP c (k a) Q) ⊢ WP c (p >>= k) Q := Entails.of_eq (wp_bind _ _ _ p k Q).symm

theorem go_intro (d : Bool) (s : Fin 3) (j : Fin 2) : iprop(landAny d s j c ∗ sendKit d s j c) ⊢ (sendGo d s j c : sProp 𝕄) := Entails.refl _
theorem back_elim0 (d : Bool) (j : Fin 2) : (sndBack d 0 j c : sProp 𝕄) ⊢ iprop(sndPos d 0 j c 1 ∗ reached ER (sndCell d 0 j c) 1 ∗ sndAny d 0 j c) := Entails.refl _
theorem back_elim1 (d : Bool) (j : Fin 2) : (sndBack d 1 j c : sProp 𝕄) ⊢ iprop(sndPos d 1 j c 1 ∗ sndAny d 1 j c) := by
  refine BIBase.Entails.trans (Entails.refl _ : _ ⊢ iprop(sndPos d 1 j c 1 ∗ reached ER (sndCell d 1 j c) 1 ∗ sndAny d 1 j c)) ?_
  iintro ⟨H, -, Ha⟩
  isplitl [H] <;> iassumption
theorem back_elim2 (d : Bool) (j : Fin 2) : (sndBack d 2 j c : sProp 𝕄) ⊢ iprop(sndPos d 0 j c 2 ∗ sndAny d 0 j c) := by
  refine BIBase.Entails.trans (Entails.refl _ : _ ⊢ iprop(sndPos d 0 j c 2 ∗ reached ER (sndCell d 0 j c) 2 ∗ sndAny d 0 j c)) ?_
  iintro ⟨H, -, Ha⟩
  isplitl [H] <;> iassumption

set_option maxHeartbeats 1600000 in
/-- The parts one after another, and the first three waits for the results copied out. -/
theorem p26_spec {Q : _ → sProp 𝕄} :
    iprop(ctx m K ∗ (∃ W, owes (c : Thread nD τ) (owed₀ c) W) ∗ (barKit true c ∗ barKit false c) ∗ (landing true c ∗ landing false c)
        ∗ (cred (tallyAt (barCell c) () 2) ∗ atPos ER (barCell c) 0 ∅ 0) ∗ (xAt m c 0 ∗ xAt m c 1 ∗ xAt m c 2 ∗ xAt m c 3)
        ∗ (stAny c 0 ∗ stAny c 1 ∗ stAny c 2 ∗ stAny c 3) ∗ (stSem c 0 ∗ stSem c 1 ∗ stSem c 2 ∗ stSem c 3)
        ∗ (wM.view.loc (c : Thread nD τ) ↦{fullShare} wstg m c) ∗ (∃ f, wqM.view.loc (c : Thread nD τ) ↦{fullShare} f)
        ∗ (sxM.view.loc (c : Thread nD τ) ↦{fullShare} sxstg m c) ∗ (swM.view.loc (c : Thread nD τ) ↦{fullShare} swstg m c)
        ∗ (oAny c true 0 ∗ oAny c false 0 ∗ oAny c true 1 ∗ oAny c false 1) ∗ dirIn true c ∗ dirIn false c)
      ⊢ iprop(((OW c 12 ∗ outFl m c false 1 ∗ atPos ER (barCell c) 1 ∅ 0 ∗ (xAt m c 0 ∗ xAt m c 1 ∗ xAt m c 2 ∗ xAt m c 3)
          ∗ (stAt m c 0 ∗ stAt m c 2 ∗ hfAny c 1 0 ∗ hfAny c 3 0 ∗ hfAny c 3 1) ∗ (stSem c 0 ∗ stSem c 1 ∗ stSem c 2)
          ∗ (wM.view.loc (c : Thread nD τ) ↦{fullShare} wstg m c) ∗ wqAt m c
          ∗ (sxM.view.loc (c : Thread nD τ) ↦{fullShare} sxstg m c) ∗ (swM.view.loc (c : Thread nD τ) ↦{fullShare} swstg m c)
          ∗ (oAt m c true 0 ∗ oAt m c false 0 ∗ oAt m c true 1) ∗ dirOut m true c ∗ dirOut m false c) -∗ Q ⟨⟩) -∗ WP c p26 Q) := by
  unfold p26
  simp only [k0_part26_eq_skeleton]; unfold k0_part26_skel
  unfold dirIn
  iintro ⟨#HC, HO, ⟨Hb₁, Hb₂⟩, ⟨Hl₁, Hl₂⟩, ⟨Hcr, Hat⟩, ⟨X0, X1, X2, X3⟩, ⟨S0, S1', S2', S3⟩, ⟨M0, M1, M2, M3⟩, Hw, Hwq, Hsx, Hsw, ⟨Ot0, Of0, Ot1, Of1⟩,
    ⟨⟨At00, At01, At10, At11⟩, ⟨Kt00, Kt01, Kt10, Kt11, Kt20, Kt21⟩, ⟨Pt00, Pt01, Pt10, Pt11⟩, ⟨Wt00, Wt01, Wt10, Wt11, Wt20, Wt21⟩⟩, ⟨⟨Af00, Af01, Af10, Af11⟩, ⟨Kf00, Kf01, Kf10, Kf11, Kf20, Kf21⟩, ⟨Pf00, Pf01, Pf10, Pf11⟩, ⟨Wf00, Wf01, Wf10, Wf11, Wf20, Wf21⟩⟩⟩ Hk
  iapply (wp_seq c)
  iapply (p1_spec m K c) $$ [HO Hb₁ Hb₂ Hl₁ Hl₂ X3 S3 M3]
  · iframe; iexact HC
  iintro %v2 %v5 %v7 ⟨HO, F3⟩
  dsimp only
  iapply (wp_seq c)
  iapply (p2_spec m K c _) $$ [HO F3 X1 S1' M1 X2 S2' M2 X0 S0 M0 Hw Hwq]
  · iframe; iexact HC
  iintro ⟨HO, F1, F2, F0, ⟨S3, X3, M3⟩, Hw, Hwq⟩
  iapply (wp_seq c)
  iapply (p3_spec m K c _) $$ [HO F1 Hcr Hat S3 Hwq At00 Kt00 Pt00]
  · iframe; iexact HC
  iintro ⟨HO, ⟨S1', X1, M1⟩, Hat, S3, Hwq, Ut00, ⟨Lt01, Lt10, Lt11, Lt20, Lt21⟩, ⟨Lf00, Lf01, Lf10, Lf11, Lf20, Lf21⟩⟩
  ihave Gt01 : iprop(sendGo true 0 1 c) $$ [Lt01 Kt01]
  · iapply (go_intro c true 0 1); iframe
  ihave Gt10 : iprop(sendGo true 1 0 c) $$ [Lt10 Kt10]
  · iapply (go_intro c true 1 0); iframe
  ihave Gt11 : iprop(sendGo true 1 1 c) $$ [Lt11 Kt11]
  · iapply (go_intro c true 1 1); iframe
  ihave Gt20 : iprop(sendGo true 2 0 c) $$ [Lt20 Kt20]
  · iapply (go_intro c true 2 0); iframe
  ihave Gt21 : iprop(sendGo true 2 1 c) $$ [Lt21 Kt21]
  · iapply (go_intro c true 2 1); iframe
  ihave Gf00 : iprop(sendGo false 0 0 c) $$ [Lf00 Kf00]
  · iapply (go_intro c false 0 0); iframe
  ihave Gf01 : iprop(sendGo false 0 1 c) $$ [Lf01 Kf01]
  · iapply (go_intro c false 0 1); iframe
  ihave Gf10 : iprop(sendGo false 1 0 c) $$ [Lf10 Kf10]
  · iapply (go_intro c false 1 0); iframe
  ihave Gf11 : iprop(sendGo false 1 1 c) $$ [Lf11 Kf11]
  · iapply (go_intro c false 1 1); iframe
  ihave Gf20 : iprop(sendGo false 2 0 c) $$ [Lf20 Kf20]
  · iapply (go_intro c false 2 0); iframe
  ihave Gf21 : iprop(sendGo false 2 1 c) $$ [Lf21 Kf21]
  · iapply (go_intro c false 2 1); iframe
  iapply (wp_seq c)
  iapply (p4_spec m K c _) $$ [HO S1' S3 Hwq Af00 Gf00 Pf00 At01]
  · iframe; iexact HC
  iintro %Y ⟨HO, S1', S3, Hwq, Uf00, At01⟩
  dsimp only
  iapply (wp_seq c)
  iapply (p5_spec m K c _ _ _) $$ [HO S1' Hwq At01 Gt01 Pt01 Af01]
  · iframe; iexact HC
  iintro ⟨HO, S1', Hwq, Ut01, Vf01⟩
  iapply (wp_seq c)
  iapply (p6_spec m K c) $$ [HO Vf01 Gf01 Pf01 F2 Hwq At10]
  · iframe; iexact HC
  iintro ⟨HO, Uf01, ⟨S2', X2, M2⟩, Hwq, Vt10⟩
  dsimp only
  iapply (wp_seq c)
  iapply (p7_spec m K c _) $$ [HO Af10 At11 Af11 Ut00]
  · iframe; iexact HC
  iintro ⟨HO, Vf10, Vt11, Vf11, Bt00⟩
  ihave Bt00 := (back_elim0 c true 0) $$ Bt00
  icases Bt00 with ⟨Pt00, Rt0, At00⟩
  iapply (wp_seq c)
  iapply (p8_spec m K c _) $$ [HO Wt00 Vt10 Gt10 Pt10]
  · iframe; iexact HC
  iintro ⟨HO, Dt00, Ut10⟩
  iapply (wp_seq c)
  iapply (p9_spec m K c _) $$ [HO Uf00 Wf00 Vf10]
  · iframe; iexact HC
  iintro ⟨HO, Bf00, Df00, Vf10⟩
  ihave Bf00 := (back_elim0 c false 0) $$ Bf00
  icases Bf00 with ⟨Pf00, Rf0, Af00⟩
  iapply (wp_seq c)
  iapply (p10_spec m K c _ _) $$ [HO Vf10 Gf10 Pf10 Ut01]
  · iframe; iexact HC
  iintro ⟨HO, Uf10, Bt01⟩
  ihave Bt01 := (back_elim0 c true 1) $$ Bt01
  icases Bt01 with ⟨Pt01, Rt1, At01⟩
  iapply (wp_seq c)
  iapply (p11_spec m K c _) $$ [HO Wt01 Vt11 Gt11 Pt11]
  · iframe; iexact HC
  iintro ⟨HO, Dt01, Ut11⟩
  iapply (wp_seq c)
  iapply (p12_spec m K c _) $$ [HO Uf01 Wf01 Vf11]
  · iframe; iexact HC
  iintro ⟨HO, Bf01, Df01, Vf11⟩
  ihave Bf01 := (back_elim0 c false 1) $$ Bf01
  icases Bf01 with ⟨Pf01, Rf1, Af01⟩
  iapply (wp_seq c)
  iapply (p13_spec m K c _) $$ [HO Vf11 Gf11 Pf11 S1' S3 Hwq At00]
  · iframe; iexact HC
  iintro ⟨HO, Uf11, S1', S3, Hwq, Vt00⟩
  dsimp only
  iapply (wp_seq c)
  iapply (p14_spec m K c _) $$ [HO Af00 At01 Af01 Ut10]
  · iframe; iexact HC
  iintro ⟨HO, Vf00, Vt01, Vf01, Bt10⟩
  ihave Bt10 := (back_elim1 c true 0) $$ Bt10
  icases Bt10 with ⟨Pt10, At10⟩
  iapply (wp_seq c)
  iapply (p15_spec m K c _) $$ [HO Wt10 Vt00 Gt20 Pt00 Rt0]
  · iframe; iexact HC
  iintro ⟨HO, Dt10, Ut20⟩
  iapply (wp_seq c)
  iapply (p16_spec m K c _) $$ [HO Uf10 Wf10 Vf00]
  · iframe; iexact HC
  iintro ⟨HO, Bf10, Df10, Vf00⟩
  ihave Bf10 := (back_elim1 c false 0) $$ Bf10
  icases Bf10 with ⟨Pf10, Af10⟩
  iapply (wp_seq c)
  iapply (p17_spec m K c _ _) $$ [HO Vf00 Gf20 Pf00 Rf0 Ut11]
  · iframe; iexact HC
  iintro ⟨HO, Uf20, Bt11⟩
  ihave Bt11 := (back_elim1 c true 1) $$ Bt11
  icases Bt11 with ⟨Pt11, At11⟩
  iapply (wp_seq c)
  iapply (p18_spec m K c _) $$ [HO Wt11 Vt01 Gt21 Pt01 Rt1]
  · iframe; iexact HC
  iintro ⟨HO, Dt11, Ut21⟩
  iapply (wp_seq c)
  iapply (p19_spec m K c _) $$ [HO Uf11 Wf11 Vf01]
  · iframe; iexact HC
  iintro ⟨HO, Bf11, Df11, Vf01⟩
  ihave Bf11 := (back_elim1 c false 1) $$ Bf11
  icases Bf11 with ⟨Pf11, Af11⟩
  iapply (wp_seq c)
  iapply (p20_spec m K c _) $$ [HO Vf01 Gf21 Pf01 Rf1 F0 Hwq Hsx Hsw]
  · iframe; iexact HC
  iintro ⟨HO, Uf21, ⟨S0, X0, M0⟩, Hwq, Hsx, Hsw⟩
  dsimp only
  ihave S3 := (stAt_halves m c 3) $$ S3
  icases S3 with ⟨H30, H31⟩
  ihave S1' := (stAt_halves m c 1) $$ S1'
  icases S1' with ⟨H10, H11⟩
  iapply (wp_seq c)
  iapply (p21_spec m K c _) $$ [HO Ut20 Wt20 H30]
  · iframe; iexact HC
  iintro ⟨HO, Bt20, Dt20, H30⟩
  ihave Bt20 := (back_elim2 c true 0) $$ Bt20
  icases Bt20 with ⟨Pt00, At00⟩
  iapply (wp_seq c)
  iapply (p22_spec m K c _) $$ [HO H30 Ot0 M0 Uf20 Wf20]
  · iframe; iexact HC
  iintro ⟨HO, E30, Bf20, Df20⟩
  ihave Bf20 := (back_elim2 c false 0) $$ Bf20
  icases Bf20 with ⟨Pf00, Af00⟩
  dsimp only
  iapply (wp_seq c)
  iapply (p23_spec m K c _) $$ [HO H10 Of0 M2 Ut21]
  · iframe; iexact HC
  iintro ⟨HO, E10, Bt21⟩
  ihave Bt21 := (back_elim2 c true 1) $$ Bt21
  icases Bt21 with ⟨Pt01, At01⟩
  iapply (wp_seq c)
  iapply (p24_spec m K c) $$ [HO Wt21 H31 Ot1 M1 Uf21]
  · iframe; iexact HC
  iintro ⟨HO, Dt21, E31, Bf21⟩
  ihave Bf21 := (back_elim2 c false 1) $$ Bf21
  icases Bf21 with ⟨Pf01, Af01⟩
  iapply (wp_seq c)
  iapply (p25_spec m K c _) $$ [HO Wf21 H11 Of1 M3]
  · iframe; iexact HC
  iintro ⟨HO, Df21, E11⟩
  simp only [Prog.lift, Prog.bind_op, Prog.bind_ret, Prog.pure_eq_ret]
  iapply (wp_wait_out m K c true 0 12 rfl rfl) $$ [E30 HO]
  · iframe; iexact HC
  iintro ⟨Ot0, H30, M0, HO⟩
  iapply (wp_wait_out m K c false 0 12 rfl rfl) $$ [E10 HO]
  · iframe; iexact HC
  iintro ⟨Of0, H10, M2, HO⟩
  iapply (wp_wait_out m K c true 1 12 rfl rfl) $$ [E31 HO]
  · iframe; iexact HC
  iintro ⟨Ot1, H31, M1, HO⟩
  iapply (wp_done c)
  iapply Hk
  isplitl [HO]; · iexact HO
  isplitl [E11]; · iexact E11
  unfold dirOut
  iframe

end Cert.RingProof
-- ==== Proof.Whole.lean ====
/-
# The whole body: all its cells close

What a device holds when the body starts and when it ends, with every buffer whole and every cell of its own
accounted for; and that the body leads from the one to the other.
-/
module

public import proofs.«01_k».proof.Proof.Body
public import proofs.«01_k».proof.Proof.Mem

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! ## Families over the cells -/

/-- A family under a persistent assertion. -/
theorem bigSep_under {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (BIClass.sep_mono (BI.bigSep_of_persistent S R) (Entails.refl _)).trans (by rw [← bigSep_sep']; exact bigSep_mono h)

/-- The connective of the lists is the notation's. -/
theorem sep_chain (P P' : sProp 𝕄) : Idealize.SL.BI.sep P P' = iprop(P ∗ P') := rfl
/-- The cells one by one. -/
theorem cells_eq (Φ : CK → sProp 𝕄) : bigSep Finset.univ Φ
    = bigSepL [.inl (),
        .inr (.inl (true, 0, 0)), .inr (.inl (true, 0, 1)), .inr (.inl (true, 1, 0)), .inr (.inl (true, 1, 1)),
        .inr (.inr (true, 0, 0)), .inr (.inr (true, 0, 1)), .inr (.inr (true, 1, 0)), .inr (.inr (true, 1, 1)), .inr (.inr (true, 2, 0)), .inr (.inr (true, 2, 1)),
        .inr (.inl (false, 0, 0)), .inr (.inl (false, 0, 1)), .inr (.inl (false, 1, 0)), .inr (.inl (false, 1, 1)),
        .inr (.inr (false, 0, 0)), .inr (.inr (false, 0, 1)), .inr (.inr (false, 1, 0)), .inr (.inr (false, 1, 1)), .inr (.inr (false, 2, 0)), .inr (.inr (false, 2, 1))] Φ :=
  bigSep_univ_eq_bigSepL _ (by decide) (by decide) Φ
/-- The sends one by one. -/
theorem sends_eq (Φ : Send → sProp 𝕄) : bigSep Finset.univ Φ
    = bigSepL [(true, 0, 0), (true, 0, 1), (true, 1, 0), (true, 1, 1), (true, 2, 0), (true, 2, 1),
        (false, 0, 0), (false, 0, 1), (false, 1, 0), (false, 1, 1), (false, 2, 0), (false, 2, 1)] Φ :=
  bigSep_univ_eq_bigSepL _ (by decide) (by decide) Φ

/-- How many rounds a cell runs. -/
def endOf : CK → ℕ
  | .inl () => 1
  | .inr (.inl (_, q, _)) => match q with | 0 => 2 | 1 => 1
  | .inr (.inr _) => 1
theorem duties_end (k : CK) (r : ℕ) (hr : endOf k ≤ r) : (ringRd m).duties (cellAt c k) r = ∅ := by
  show dutiesOf (kindOf (semOf k)) r = ∅
  rw [kindOf_semOf]
  rcases k with ⟨⟩ | ⟨d, q, j⟩ | ⟨d, s, j⟩
  · exact if_neg (by change 1 ≤ r at hr; omega)
  · refine if_neg ?_
    fin_cases q
    · change 2 ≤ r at hr; omega
    · change 1 ≤ r at hr
      rintro (h | ⟨h, -⟩)
      · omega
      · exact absurd h (by decide)
  · exact if_neg (by change 1 ≤ r at hr; omega)

/-- A device's position at each of its cells. -/
def posAll (r : CK → ℕ) : sProp 𝕄 := bigSep Finset.univ fun k : CK => atPos ER (cellAt c k) (r k) ∅ 0
/-- Its cells' counters at zero. -/
def semAll : sProp 𝕄 := bigSep Finset.univ fun k : CK => semVal (cellAt c k) 0

/-- The positions one by one, at the start and at the end. -/
theorem pos_start : posAll c (fun _ => 0) ⊢ (iprop(atPos ER (barCell c) 0 ∅ 0 ∗ sndPos true 0 0 c 0 ∗ sndPos true 0 1 c 0 ∗ sndPos true 1 0 c 0 ∗ sndPos true 1 1 c 0 ∗ rcvPos true 0 0 c 0 ∗ rcvPos true 0 1 c 0 ∗ rcvPos true 1 0 c 0 ∗ rcvPos true 1 1 c 0 ∗ rcvPos true 2 0 c 0 ∗ rcvPos true 2 1 c 0 ∗ sndPos false 0 0 c 0 ∗ sndPos false 0 1 c 0 ∗ sndPos false 1 0 c 0 ∗ sndPos false 1 1 c 0 ∗ rcvPos false 0 0 c 0 ∗ rcvPos false 0 1 c 0 ∗ rcvPos false 1 0 c 0 ∗ rcvPos false 1 1 c 0 ∗ rcvPos false 2 0 c 0 ∗ rcvPos false 2 1 c 0) : sProp 𝕄) := by
  unfold posAll; rw [cells_eq]; exact Entails.refl _
theorem pos_end : (iprop(atPos ER (barCell c) 1 ∅ 0 ∗ sndPos true 0 0 c 2 ∗ sndPos true 0 1 c 2 ∗ sndPos true 1 0 c 1 ∗ sndPos true 1 1 c 1 ∗ rcvPos true 0 0 c 1 ∗ rcvPos true 0 1 c 1 ∗ rcvPos true 1 0 c 1 ∗ rcvPos true 1 1 c 1 ∗ rcvPos true 2 0 c 1 ∗ rcvPos true 2 1 c 1 ∗ sndPos false 0 0 c 2 ∗ sndPos false 0 1 c 2 ∗ sndPos false 1 0 c 1 ∗ sndPos false 1 1 c 1 ∗ rcvPos false 0 0 c 1 ∗ rcvPos false 0 1 c 1 ∗ rcvPos false 1 0 c 1 ∗ rcvPos false 1 1 c 1 ∗ rcvPos false 2 0 c 1 ∗ rcvPos false 2 1 c 1) : sProp 𝕄) ⊢ posAll c endOf := by
  unfold posAll; rw [cells_eq]; exact Entails.refl _

/-- One cell past its rounds closes. -/
theorem close_one (k : CK) : iprop(ctx m K ∗ atPos ER (cellAt c k) (endOf k) ∅ 0) ⊢ (|={Set.univ}=> semVal (cellAt c k) 0 : sProp 𝕄) := by
  iintro ⟨#HC, Hat⟩
  ihave HI := (ctx_inv m K c k) $$ HC
  iapply (Rounds.cell_close ER (ringRd m) (Set.mem_univ (K (c, k))) (fun h => h) (R := endOf k) (fun r hr => duties_end m c k r hr))
  isplitl [HI] <;> iassumption
/-- All of them close. -/
theorem close_all : iprop(ctx m K ∗ posAll c endOf) ⊢ (|={Set.univ}=> semAll c : sProp 𝕄) :=
  (bigSep_under (R := ctx m K) fun k _ => close_one m K c k).trans (bigSep_fupd _ _)

/-! ## Before and after -/

/-- The four copies' semaphores at zero. -/
def stSems : sProp 𝕄 := iprop(stSem c 0 ∗ stSem c 1 ∗ stSem c 2 ∗ stSem c 3)
/-- The scratch buffers at any contents. -/
def scratch : sProp 𝕄 :=
  iprop((∃ f, stM.view.loc (c : Thread nD τ) ↦{fullShare} f) ∗ (∃ f, wqM.view.loc (c : Thread nD τ) ↦{fullShare} f)
    ∗ (∃ f, (sndM true).view.loc (c : Thread nD τ) ↦{fullShare} f) ∗ (∃ f, (sndM false).view.loc (c : Thread nD τ) ↦{fullShare} f)
    ∗ (∃ f, (rcvM true).view.loc (c : Thread nD τ) ↦{fullShare} f) ∗ (∃ f, (rcvM false).view.loc (c : Thread nD τ) ↦{fullShare} f))
/-- The tokens a device pays with: two barrier duties and twelve sends' duties. -/
def payAll : sProp 𝕄 :=
  iprop((barKit true c ∗ barKit false c) ∗ bigSep Finset.univ fun x : Send => sendKit x.1 x.2.1 x.2.2 c)
/-- What others will credit to a device's cells. -/
def credAll : sProp 𝕄 :=
  iprop(cred (tallyAt (barCell c) () 2) ∗ bigSep Finset.univ fun x : Send => rcvCred x.1 x.2.1 x.2.2 c)
/-- The ghost state a device starts from, its two arrays outside the windows. -/
def start : sProp 𝕄 :=
  iprop((∃ K, records m K ∗ posAll c (fun _ => 0) ∗ payAll c) ∗ credAll c ∗ levAts L lv ∗ stSems c
    ∗ (xM.view.loc (c : Thread nD τ) ↦{fullShare} m ((c : Thread nD τ).loc main_arg0)) ∗ (∃ f, oM.view.loc (c : Thread nD τ) ↦{fullShare} f))
def Φ₀ : sProp 𝕄 := iprop(start m c ∗ scratch c)
/-- What the body leaves: the first argument as it was, the result, every counter at zero. -/
def Φ₁ : sProp 𝕄 :=
  iprop((xM.view.loc (c : Thread nD τ) ↦{fullShare} m ((c : Thread nD τ).loc main_arg0)) ∗ (oM.view.loc (c : Thread nD τ) ↦{fullShare} outF m c)
    ∗ semAll c ∗ stSems c ∗ scratch c)

/-- The body, at the buffers it runs on. -/
abbrev body : Prog (TpuEff nD τ sig (Elt F) Λ₀ .tc) PUnit := cc0_body xM (Memref.isWhole_whole _) wM (Memref.isWhole_whole _) sxM (Memref.isWhole_whole _) swM (Memref.isWhole_whole _) oM (Memref.isWhole_whole _)
  stM (Memref.isWhole_whole _) wqM (Memref.isWhole_whole _) (sndM true) (Memref.isWhole_whole _) (sndM false) (Memref.isWhole_whole _)
  (rcvM true) (Memref.isWhole_whole _) (rcvM false) (Memref.isWhole_whole _) cc0_scratch6 cc0_scratch7 cc0_scratch8 cc0_scratch9 cc0_scratch10

set_option maxHeartbeats 1600000 in
/-- The body leads from the one to the other and owes nothing. -/
theorem body_spec {Q : PUnit → sProp 𝕄} :
    iprop(Φ₀ m c ∗ (∃ W, owes (c : Thread nD τ) (owed₀ c) W) ∗ (wM.view.loc (c : Thread nD τ) ↦{fullShare} wstg m c)
        ∗ (sxM.view.loc (c : Thread nD τ) ↦{fullShare} sxstg m c) ∗ (swM.view.loc (c : Thread nD τ) ↦{fullShare} swstg m c))
      ⊢ iprop(((Φ₁ m c ∗ (∃ W, owes (c : Thread nD τ) 0 W) ∗ (wM.view.loc (c : Thread nD τ) ↦{fullShare} wstg m c)
          ∗ (sxM.view.loc (c : Thread nD τ) ↦{fullShare} sxstg m c) ∗ (swM.view.loc (c : Thread nD τ) ↦{fullShare} swstg m c)) -∗ Q ⟨⟩)
        -∗ WP c body Q) := by
  unfold body
  simp only [cc0_body_eq_skeleton]; unfold cc0_body_skel
  unfold Φ₀ start scratch payAll credAll stSems
  simp only [sends_eq, bigSepL_cons_cons, bigSepL_singleton, sep_chain]
  iintro ⟨⟨⟨⟨%K, #HR, Hpos, ⟨Hb₁, Hb₂⟩, Kt00, Kt01, Kt10, Kt11, Kt20, Kt21, Kf00, Kf01, Kf10, Kf11, Kf20, Kf21⟩, ⟨Hcr, Ct00, Ct01, Ct10, Ct11, Ct20, Ct21, Cf00, Cf01, Cf10, Cf11, Cf20, Cf21⟩, #HL, Hst, Hx, ⟨%fo, Ho⟩⟩, Hs, Hwq, Hst₁, Hst₂, Hr₁, Hr₂⟩, HO, Hw, Hsx, Hsw⟩ Hk
  ihave #HC : iprop(ctx m K) $$ []
  · unfold ctx
    isplitl []; · iexact HR
    iexact HL
  ihave Hpos := (pos_start c) $$ Hpos
  icases Hpos with ⟨Hat, Pt00, Pt01, Pt10, Pt11, Wt00, Wt01, Wt10, Wt11, Wt20, Wt21, Pf00, Pf01, Pf10, Pf11, Wf00, Wf01, Wf10, Wf11, Wf20, Wf21⟩
  ihave Hx4 := (x_split m c).1 $$ Hx
  icases Hx4 with ⟨⟨⟨X0, Y0⟩, ⟨X1, Y1⟩⟩, ⟨X2, Y2⟩, ⟨X3, Y3⟩⟩
  ihave Hout := (o_split c fo) $$ Ho
  ihave Hs4 := (st_split c) $$ Hs
  ihave Ht := (snd_split c true) $$ Hst₁
  ihave Hf := (snd_split c false) $$ Hst₂
  ihave Hlt := (rcv_split c true) $$ Hr₁
  ihave Hlf := (rcv_split c false) $$ Hr₂
  iapply (wp_seq c)
  iapply (p26_spec m K c) $$ [HO Hb₁ Hb₂ Hlt Hlf Hcr Hat X0 X1 X2 X3 Hs4 Hst Hw Hwq Hsx Hsw Hout Ht Hf Pt00 Pt01 Pt10 Pt11 Wt00 Wt01 Wt10 Wt11 Wt20 Wt21 Pf00 Pf01 Pf10 Pf11 Wf00 Wf01 Wf10 Wf11 Wf20 Wf21 Kt00 Kt01 Kt10 Kt11 Kt20 Kt21 Kf00 Kf01 Kf10 Kf11 Kf20 Kf21 Ct00 Ct01 Ct10 Ct11 Ct20 Ct21 Cf00 Cf01 Cf10 Cf11 Cf20 Cf21]
  · isplitl []; · iexact HC
    isplitl [HO]; · iexact HO
    isplitl [Hb₁ Hb₂]; · isplitl [Hb₁] <;> iassumption
    isplitl [Hlt Hlf]; · isplitl [Hlt] <;> iassumption
    isplitl [Hcr Hat]
    · isplitl [Hcr]; · iexact Hcr
      iexact Hat
    isplitl [X0 X1 X2 X3]
    · iframe
    isplitl [Hs4]; · iexact Hs4
    isplitl [Hst]; · iexact Hst
    isplitl [Hw]; · iexact Hw
    isplitl [Hwq]; · iexact Hwq
    isplitl [Hsx]; · iexact Hsx
    isplitl [Hsw]; · iexact Hsw
    isplitl [Hout]; · iexact Hout
    isplitl [Ht Pt00 Pt01 Pt10 Pt11 Wt00 Wt01 Wt10 Wt11 Wt20 Wt21 Kt00 Kt01 Kt10 Kt11 Kt20 Kt21 Ct00 Ct01 Ct10 Ct11 Ct20 Ct21]
    · unfold dirIn rcvWait
      isplitl [Ht]; · iexact Ht
      isplitl [Kt00 Kt01 Kt10 Kt11 Kt20 Kt21]
      · isplitl [Kt00]; · iexact Kt00
        isplitl [Kt01]; · iexact Kt01
        isplitl [Kt10]; · iexact Kt10
        isplitl [Kt11]; · iexact Kt11
        isplitl [Kt20]; · iexact Kt20
        iexact Kt21
      isplitl [Pt00 Pt01 Pt10 Pt11]
      · isplitl [Pt00]; · iexact Pt00
        isplitl [Pt01]; · iexact Pt01
        isplitl [Pt10]; · iexact Pt10
        iexact Pt11
      isplitl [Wt00 Ct00]
      · isplitl [Ct00]; · iexact Ct00
        iexact Wt00
      isplitl [Wt01 Ct01]
      · isplitl [Ct01]; · iexact Ct01
        iexact Wt01
      isplitl [Wt10 Ct10]
      · isplitl [Ct10]; · iexact Ct10
        iexact Wt10
      isplitl [Wt11 Ct11]
      · isplitl [Ct11]; · iexact Ct11
        iexact Wt11
      isplitl [Wt20 Ct20]
      · isplitl [Ct20]; · iexact Ct20
        iexact Wt20
      isplitl [Ct21]; · iexact Ct21
      iexact Wt21
    unfold dirIn rcvWait
    isplitl [Hf]; · iexact Hf
    isplitl [Kf00 Kf01 Kf10 Kf11 Kf20 Kf21]
    · isplitl [Kf00]; · iexact Kf00
      isplitl [Kf01]; · iexact Kf01
      isplitl [Kf10]; · iexact Kf10
      isplitl [Kf11]; · iexact Kf11
      isplitl [Kf20]; · iexact Kf20
      iexact Kf21
    isplitl [Pf00 Pf01 Pf10 Pf11]
    · isplitl [Pf00]; · iexact Pf00
      isplitl [Pf01]; · iexact Pf01
      isplitl [Pf10]; · iexact Pf10
      iexact Pf11
    isplitl [Wf00 Cf00]
    · isplitl [Cf00]; · iexact Cf00
      iexact Wf00
    isplitl [Wf01 Cf01]
    · isplitl [Cf01]; · iexact Cf01
      iexact Wf01
    isplitl [Wf10 Cf10]
    · isplitl [Cf10]; · iexact Cf10
      iexact Wf10
    isplitl [Wf11 Cf11]
    · isplitl [Cf11]; · iexact Cf11
      iexact Wf11
    isplitl [Wf20 Cf20]
    · isplitl [Cf20]; · iexact Cf20
      iexact Wf20
    isplitl [Cf21]; · iexact Cf21
    iexact Wf21
  iintro ⟨HO, Hfl, Hat, ⟨X0, X1, X2, X3⟩, ⟨S0, S2, H10, H30, H31⟩, ⟨M0, M1, M2⟩, Hw, Hwq, Hsx, Hsw, ⟨Ot0, Of0, Ot1⟩, Dt, Df⟩
  simp only [Prog.lift, Prog.bind_op, Prog.bind_ret, Prog.pure_eq_ret]
  iapply (wp_wait_out m K c false 1 12 rfl rfl) $$ [Hfl HO]
  · iframe; iexact HC
  iintro ⟨Of1, H11, M3, HO⟩
  unfold dirOut rcvDone
  icases Dt with ⟨Ht, ⟨Pt00, Pt01, Pt10, Pt11⟩, ⟨Wt00, At00⟩, ⟨Wt01, At01⟩, ⟨Wt10, At10⟩, ⟨Wt11, At11⟩, ⟨Wt20, At20⟩, ⟨Wt21, At21⟩⟩
  icases Df with ⟨Hf, ⟨Pf00, Pf01, Pf10, Pf11⟩, ⟨Wf00, Af00⟩, ⟨Wf01, Af01⟩, ⟨Wf10, Af10⟩, ⟨Wf11, Af11⟩, ⟨Wf20, Af20⟩, ⟨Wf21, Af21⟩⟩
  imod (close_all m K c) $$ [Hat Pt00 Pt01 Pt10 Pt11 Wt00 Wt01 Wt10 Wt11 Wt20 Wt21 Pf00 Pf01 Pf10 Pf11 Wf00 Wf01 Wf10 Wf11 Wf20 Wf21] with Hz
  · isplitl []; · iexact HC
    iapply (pos_end c)
    isplitl [Hat]; · iexact Hat
    isplitl [Pt00]; · iexact Pt00
    isplitl [Pt01]; · iexact Pt01
    isplitl [Pt10]; · iexact Pt10
    isplitl [Pt11]; · iexact Pt11
    isplitl [Wt00]; · iexact Wt00
    isplitl [Wt01]; · iexact Wt01
    isplitl [Wt10]; · iexact Wt10
    isplitl [Wt11]; · iexact Wt11
    isplitl [Wt20]; · iexact Wt20
    isplitl [Wt21]; · iexact Wt21
    isplitl [Pf00]; · iexact Pf00
    isplitl [Pf01]; · iexact Pf01
    isplitl [Pf10]; · iexact Pf10
    isplitl [Pf11]; · iexact Pf11
    isplitl [Wf00]; · iexact Wf00
    isplitl [Wf01]; · iexact Wf01
    isplitl [Wf10]; · iexact Wf10
    isplitl [Wf11]; · iexact Wf11
    isplitl [Wf20]; · iexact Wf20
    iexact Wf21
  iapply (wp_done c)
  iapply Hk
  unfold Φ₁
  isplitl [X0 X1 X2 X3 Y0 Y1 Y2 Y3 Ot0 Of0 Ot1 Of1 Hz M0 M1 M2 M3 S0 S2 H10 H11 H30 H31 Hwq Ht Hf At00 At01 At10 At11 At20 At21 Af00 Af01 Af10 Af11 Af20 Af21]
  · isplitl [X0 X1 X2 X3 Y0 Y1 Y2 Y3]
    · iapply (x_split m c).2
      isplitl [X0 X1 Y0 Y1]
      · isplitl [X0 Y0]
        · isplitl [X0] <;> iassumption
        isplitl [X1] <;> iassumption
      isplitl [X2 Y2]
      · isplitl [X2] <;> iassumption
      isplitl [X3] <;> iassumption
    isplitl [Ot0 Of0 Ot1 Of1]
    · iapply (o_join m c)
      iframe
    isplitl [Hz]; · iexact Hz
    isplitl [M0 M1 M2 M3]
    · unfold stSems
      isplitl [M0]; · iexact M0
      isplitl [M1]; · iexact M1
      isplitl [M2]; · iexact M2
      iexact M3
    unfold scratch
    isplitl [S0 S2 H10 H11 H30 H31]
    · iapply (st_join m c)
      isplitl [S0]; · iapply (stAt_any m c 0) $$ S0
      isplitl [H10 H11]
      · iapply (halves_stAny c 1)
        isplitl [H10] <;> iassumption
      isplitl [S2]; · iapply (stAt_any m c 2) $$ S2
      iapply (halves_stAny c 3)
      isplitl [H30] <;> iassumption
    isplitl [Hwq]
    · unfold wqAt
      iexists _; iexact Hwq
    isplitl [Ht]; · iapply (snd_join m c true) $$ Ht
    isplitl [Hf]; · iapply (snd_join m c false) $$ Hf
    isplitl [At00 At01 At10 At11 At20 At21]
    · iapply (rcv_join m c true)
      iframe
    iapply (rcv_join m c false)
    iframe
  isplitl [HO]
  · unfold OW
    iexact HO
  isplitl [Hw]; · iexact Hw
  isplitl [Hsx]; · iexact Hsx
  iexact Hsw

end Cert.RingProof
-- ==== Proof.Ghost.lean ====
/-
# The ghost state at the launch

The cells of all devices are allocated at once, each duty's token is dealt to the device that pays it, and each device
takes the credit that the others will give its cells.
-/
module

public import proofs.«01_k».proof.Proof.Whole

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens, of all devices -/

theorem cellAt_injective : Function.Injective (fun ck : Dev nD × CK => cellAt ck.1 ck.2) := by
  rintro ⟨c, k⟩ ⟨c', k'⟩ h
  have hc : c = c' := congrArg (fun g : GSem nD τ sig => g.1.1) h
  have hk : k = k' := semOf_injective (congrArg Prod.snd h)
  rw [hc, hk]
def ringCells : Finset (GSem nD τ sig) := Finset.univ.map ⟨_, cellAt_injective⟩

/-- The duties by who pays them: a device's two barrier signals, and for each of its sends the duty at its own send slot
    (`false`) and the duty at the landing slot (`true`). -/
abbrev TK : Type := Bool ⊕ (Send × Bool)
/-- The duty as its cell names it. -/
def tokOf : Dev nD × TK → GSem nD τ sig × ℕ × Bool
  | (c, .inl d) => (barCell c, 0, d)
  | (c, .inr ((d, s, j), false)) => (sndCell d (qOf s) j c, uOf s, false)
  | (c, .inr ((d, s, j), true)) => (rcvCell d s j c, 0, false)
/-- The same as a cell's kind, a round and a duty. -/
def codeOf : TK → Option CK × ℕ × Bool
  | .inl d => (some (.inl ()), 0, d)
  | .inr ((d, s, j), false) => (some (.inr (.inl (d, qOf s, j))), uOf s, false)
  | .inr ((d, s, j), true) => (some (.inr (.inr (d, s, j))), 0, false)
theorem codeOf_injective : Function.Injective codeOf := by decide
theorem tokOf_code (c : Dev nD) (t : TK) : (kindOf (tokOf (c, t)).1.2, (tokOf (c, t)).2.1, (tokOf (c, t)).2.2) = codeOf t := by
  rcases t with d | ⟨⟨d, s, j⟩, b⟩
  · rfl
  · cases b
    · unfold tokOf codeOf; rw [kindOf_snd]
    · unfold tokOf codeOf; rw [kindOf_rcv]
theorem tokOf_dev (c : Dev nD) (t : TK) : (tokOf (c, t)).1.1.1 = c := by
  rcases t with d | ⟨⟨d, s, j⟩, b⟩
  · rfl
  · cases b <;> rfl
theorem tokOf_injective : Function.Injective tokOf := by
  rintro ⟨c, t⟩ ⟨c', t'⟩ h
  have hc : c = c' := by rw [← tokOf_dev c t, h, tokOf_dev]
  have ht : t = t' := codeOf_injective (by rw [← tokOf_code c t, ← tokOf_code c' t', h])
  rw [hc, ht]
def ringToks : Finset (GSem nD τ sig × ℕ × Bool) := Finset.univ.map ⟨tokOf, tokOf_injective⟩

/-- The token of a duty, by the device whose cell it is. -/
def tok (x : Dev nD × TK) : sProp 𝕄 := dutyTok ER (tokOf x).1 (tokOf x).2.1 (tokOf x).2.2

/-- Whose cell the duty that device `c` pays belongs to. -/
def payee : Dev nD × TK → Dev nD × TK
  | (c, .inl d) => (src d c, .inl d)
  | (c, .inr ((d, s, j), false)) => (c, .inr ((d, s, j), false))
  | (c, .inr ((d, s, j), true)) => (dst d c, .inr ((d, s, j), true))
/-- Who pays it. -/
def payer : Dev nD × TK → Dev nD × TK
  | (c, .inl d) => (dst d c, .inl d)
  | (c, .inr ((d, s, j), false)) => (c, .inr ((d, s, j), false))
  | (c, .inr ((d, s, j), true)) => (src d c, .inr ((d, s, j), true))
theorem payer_payee (x : Dev nD × TK) : payer (payee x) = x := by
  rcases x with ⟨c, d | ⟨⟨d, s, j⟩, b⟩⟩
  · exact congrArg (·, Sum.inl d) (dst_src d c)
  · cases b
    · rfl
    · exact congrArg (·, Sum.inr ((d, s, j), true)) (src_dst d c)
theorem payee_payer (x : Dev nD × TK) : payee (payer x) = x := by
  rcases x with ⟨c, d | ⟨⟨d, s, j⟩, b⟩⟩
  · exact congrArg (·, Sum.inl d) (src_dst d c)
  · cases b
    · rfl
    · exact congrArg (·, Sum.inr ((d, s, j), true)) (dst_src d c)
def paying : Dev nD × TK ≃ Dev nD × TK := ⟨payee, payer, payer_payee, payee_payer⟩

/-- The tokens dealt to those who pay with them. -/
theorem toks_dealt : bigSep Finset.univ (fun x : Dev nD × TK => (tok x : sProp 𝕄)) = bigSep Finset.univ fun c : Dev nD => bigSep Finset.univ fun t : TK => tok (payee (c, t)) := by
  rw [bigSep_univ_equiv paying, bigSep_univ_prod]; rfl
theorem pay_one (c : Dev nD) : bigSep Finset.univ (fun t : TK => (tok (payee (c, t)) : sProp 𝕄)) = payAll c := by
  rw [bigSep_univ_sum, bigSep_univ_prod, bigSep_univ_eq_bigSepL [true, false] (by decide) (by decide)]
  unfold payAll
  refine congrArg₂ _ rfl (bigSep_congr fun x _ => ?_)
  rw [bigSep_univ_eq_bigSepL [false, true] (by decide) (by decide)]
  rfl

/-! ## Funding, and allocating the cells -/

def u₀ : UU := (initOf (Pipeline.cells cfgs cellOf_inj) (Pipeline.launchToks cfgs cellOf_inj), (initOf ringCells ringToks, 1))

/-- What the launch element deals a device. -/
def G (c : Dev nD) : sProp 𝕄 :=
  iprop((bigSep Finset.univ fun k : CK => roundState ER (ringRd m) (cellAt c k) 0)
    ∗ (bigSep Finset.univ fun k : CK => iprop(atPos ER (cellAt c k) 0 ∅ 0 ∗ reached ER (cellAt c k) 0))
    ∗ bigSep Finset.univ fun t : TK => tok (c, t))
/-- What the global step makes of it. -/
def G' (c : Dev nD) : sProp 𝕄 := iprop(stSems c ∗ ∃ K, records m K ∗ posAll c (fun _ => 0) ∗ payAll c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (cellAt c k) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun t : TK => tok (c, t) := by
    unfold ringToks; rw [bigSep_map, bigSep_univ_prod]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores: the copies' four and the slots'. -/
abbrev OK : Type := Fin 4 ⊕ XK
instance instDecidableEqOK : DecidableEq OK := instDecidableEqSum
abbrev osem : OK → SemLoc sig
  | .inl k => .dma (stS k)
  | .inr x => semOf (.inr x)
theorem ownSemFacts : Pipeline.OwnSemFacts cfg0.spec osem := by decide

/-- The slots' counters at zero. -/
def slotSems (c : Dev nD) : sProp 𝕄 := bigSep Finset.univ fun x : XK => semVal (cellAt c (.inr x)) 0
theorem ownSems0_eq (c : Dev nD) : (Pipeline.ownSems0 (Ix := Unit) (Name := ℕ) (U := UU) (Lvl := ℕ) (Val := Elt F) (τ := τ) osem c : sProp 𝕄)
    = iprop(stSems c ∗ slotSems c) := by
  unfold Pipeline.ownSems0 slotSems
  rw [bigSep_univ_sum, bigSep_univ_eq_bigSepL [0, 1, 2, 3] (by decide) (by decide)]
  rfl
/-- The barrier's is the one outside the kernel's. -/
theorem unscopedSems0_eq (c : Dev nD) : (unscopedSems0 c : sProp 𝕄) = semVal (barCell c) 0 := by
  unfold unscopedSems0; rw [bigSep_eq_bigSepL_of_eq [SemLoc.reg barS] (by decide) (by decide)]; rfl
theorem semAll_eq (c : Dev nD) : (semAll c : sProp 𝕄) = iprop(semVal (barCell c) 0 ∗ slotSems c) := by
  unfold semAll slotSems
  rw [bigSep_univ_sum, bigSep_univ_eq_bigSepL [()] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(stSems c ∗ (bigSep Finset.univ fun k : CK => iprop(∃ κ : ℕ, cellInv ER (ringRd m) κ (cellAt c k)))
          ∗ (bigSep Finset.univ fun k : CK => iprop(atPos ER (cellAt c k) 0 ∅ 0 ∗ reached ER (cellAt c k) 0))
          ∗ bigSep Finset.univ fun t : TK => tok (c, t)) := by
  unfold G
  rw [ownSems0_eq, unscopedSems0_eq]
  iintro ⟨⟨Hst4, Hos⟩, Hus, Hst, Hat, Htok⟩
  ihave Hv := (Entails.of_eq (semAll_eq (F := F) c).symm) $$ [Hos Hus]
  · isplitl [Hus] <;> iassumption
  unfold semAll
  imod (show iprop((bigSep Finset.univ fun k : CK => semVal (cellAt c k) 0) ∗ bigSep Finset.univ fun k : CK => roundState ER (ringRd m) (cellAt c k) 0)
      ⊢ (|={Set.univ}=> bigSep Finset.univ fun k => iprop(∃ κ : ℕ, cellInv ER (ringRd m) κ (cellAt c k)) : sProp 𝕄) from by
        rw [← bigSep_sep']
        exact (bigSep_mono fun k _ => (Rounds.body_intro ER (ringRd m) (cellAt c k)).trans inv_alloc).trans (bigSep_fupd _ _)) $$ [Hv Hst] with Hinv
  · isplitl [Hv] <;> iassumption
  imodintro
  isplitl [Hst4]; · iexact Hst4
  isplitl [Hinv]; · iexact Hinv
  isplitl [Hat]; · iexact Hat
  iexact Htok

/-- The invariants of all devices' cells, named at once; each device takes its positions and the tokens it pays with. -/
theorem regroup :
    (bigSep Finset.univ fun c : Dev nD => iprop(stSems c ∗ (bigSep Finset.univ fun k : CK => iprop(∃ κ : ℕ, cellInv ER (ringRd m) κ (cellAt c k)))
          ∗ (bigSep Finset.univ fun k : CK => iprop(atPos ER (cellAt c k) 0 ∅ 0 ∗ reached ER (cellAt c k) 0))
          ∗ bigSep Finset.univ fun t : TK => tok (c, t)) : sProp 𝕄)
      ⊢ bigSep Finset.univ (G' m) := by
  rw [bigSep_sep', bigSep_sep', bigSep_sep', ← bigSep_univ_prod (fun ck : Dev nD × CK => iprop(∃ κ : ℕ, cellInv ER (ringRd m) κ (cellAt ck.1 ck.2))),
    bigSep_congr (s := Finset.univ) (fun (c : Dev nD) _ => bigSep_sep' Finset.univ (fun k : CK => (atPos ER (cellAt c k) 0 ∅ 0 : sProp 𝕄)) (fun k => reached ER (cellAt c k) 0)),
    bigSep_sep', ← bigSep_univ_prod (fun ck : Dev nD × CK => (reached ER (cellAt ck.1 ck.2) 0 : sProp 𝕄)),
    ← bigSep_univ_prod (fun x : Dev nD × TK => (tok x : sProp 𝕄)), toks_dealt]
  iintro ⟨Hst, HI, ⟨Hat, #HR⟩, Htok⟩
  ihave HK := (BI.bigSep_exists_pi Finset.univ (fun (ck : Dev nD × CK) (κ : ℕ) => (cellInv ER (ringRd m) κ (cellAt ck.1 ck.2) : sProp 𝕄))) $$ HI
  icases HK with ⟨%K, #HI⟩
  iapply (bigSep_under (R := records m K) (Φ := fun c : Dev nD => iprop(stSems c ∗ posAll c (fun _ => 0) ∗ payAll c)) fun c _ => by
    unfold G'
    iintro ⟨#HR, Hs, Hp, Ht⟩
    isplitl [Hs]; · iexact Hs
    iexists K
    isplitl []; · iexact HR
    isplitl [Hp] <;> iassumption)
  isplitl []
  · unfold records; isplitl []; · iexact HI
    iexact HR
  rw [bigSep_sep', bigSep_sep']
  isplitl [Hst]; · iexact Hst
  isplitl [Hat]; · iexact Hat
  iapply (Entails.of_eq (bigSep_congr fun c _ => pay_one (F := F) c)) $$ Htok

/-- The global step: every device's semaphores, its own and the barrier's, at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the others will credit -/

theorem cellAt_eq_iff {a b : Dev nD} {k k' : CK} : Iff (cellAt a k = cellAt b k') (a = b ∧ k = k') :=
  ⟨fun h => by have := cellAt_injective (a₁ := (a, k)) (a₂ := (b, k')) h; exact ⟨congrArg Prod.fst this, congrArg Prod.snd this⟩, fun h => by rw [h.1, h.2]⟩

/-- What device `e` owes by the sends of `l` to one landing cell. -/
theorem owedOf_rcv (e c : Dev nD) (d : Bool) (s : Fin 3) (j : Fin 2) (l : List Send) :
    owedOf e l (rcvCell d s j c) () = l.count (d, s, j) * if e = src d c then N else 0 := by
  induction l with
  | nil => rw [List.count_nil, Nat.zero_mul]; rfl
  | cons x l ih =>
    obtain ⟨d', s', j'⟩ := x
    unfold owedOf
    rw [Pi.add_apply, Finsupp.add_apply, tallyAt_apply, ih, List.count_cons, Nat.add_mul]
    congr 1
    by_cases hx : (d', s', j') = (d, s, j)
    · obtain ⟨rfl, rfl, rfl⟩ : d' = d ∧ s' = s ∧ j' = j := by simpa using hx
      rw [if_pos (c := ((d', s', j') == (d', s', j')) = true) (by simp), Nat.one_mul]
      by_cases he : e = src d' c
      · subst he; rw [if_pos ⟨by rw [dst_src], rfl⟩, if_pos rfl]
      · rw [if_neg (fun h => he (by rw [(cellAt_eq_iff (k := .inr (.inr (d', s', j'))) (k' := .inr (.inr (d', s', j')))).1 h.1 |>.1, src_dst])), if_neg he]
    · rw [if_neg (fun h => hx (by have := ((cellAt_eq_iff (k := .inr (.inr (d, s, j))) (k' := .inr (.inr (d', s', j')))).1 h.1).2; injection this with h1; injection h1 with h2; exact h2.symm)),
        if_neg (by simpa using hx), Nat.zero_mul]
theorem owedOf_bar (e c : Dev nD) (l : List Send) : owedOf e l (barCell c) () = 0 := by
  by_contra h
  obtain ⟨x, -, hx⟩ := owedOf_pos (Nat.pos_of_ne_zero h)
  exact absurd (congrArg (fun g : GSem nD τ sig => kindOf g.2) hx) (by change some (Sum.inl ()) ≠ kindOf (.dma (rcvS _ _ _)); rw [kindOf_rcv]; exact fun h => by cases h)

theorem order_count (x : Send) : order.count x = 1 := by revert x; decide

theorem owed₀_rcv (e c : Dev nD) (x : Send) : owed₀ e (rcvCell x.1 x.2.1 x.2.2 c) () = if e = src x.1 c then N else 0 := by
  obtain ⟨d, s, j⟩ := x
  unfold owed₀ owed₁ owed
  have hne (b : Dev nD) : ¬ (rcvCell d s j c = barCell b ∧ () = ()) := fun h =>
    absurd ((cellAt_eq_iff (k := .inr (.inr (d, s, j))) (k' := .inl ())).1 h.1).2 (fun h => by cases h)
  rw [Pi.add_apply, Finsupp.add_apply, Pi.add_apply, Finsupp.add_apply, tallyAt_apply, tallyAt_apply, if_neg (hne _), if_neg (hne _)]
  change owedOf e order (rcvCell d s j c) () = _
  rw [owedOf_rcv, order_count, Nat.one_mul]
theorem owed₀_bar (e c : Dev nD) : owed₀ e (barCell c) () = (if e = prv c then 1 else 0) + if e = nxt c then 1 else 0 := by
  unfold owed₀ owed₁ owed
  rw [Pi.add_apply, Finsupp.add_apply, Pi.add_apply, Finsupp.add_apply, tallyAt_apply, tallyAt_apply, owedOf_bar, Nat.zero_add]
  have hb {a b : Dev nD} (h : barCell a = barCell b) : a = b := ((cellAt_eq_iff (k := .inl ()) (k' := .inl ())).1 h).1
  congr 1
  · by_cases he : e = prv c
    · subst he; rw [if_pos ⟨by rw [nxt_prv], rfl⟩, if_pos rfl]
    · rw [if_neg (fun h => he (by rw [hb h.1, prv_nxt])), if_neg he]
  · by_cases he : e = nxt c
    · subst he; rw [if_pos ⟨by rw [prv_nxt], rfl⟩, if_pos rfl]
    · rw [if_neg (fun h => he (by rw [hb h.1, nxt_prv])), if_neg he]

theorem launch_bar (c : Dev nD) :
    tallyOn (barCell c) (launchCredit (Pipeline.owing owed₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed₀_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_rcv (c : Dev nD) (x : Send) :
    tallyOn (rcvCell x.1 x.2.1 x.2.2 c) (launchCredit (Pipeline.owing owed₀) 0 (rcvCell x.1 x.2.1 x.2.2 c)) = (tallyAt (rcvCell x.1 x.2.1 x.2.2 c) () N : CellTallies nD τ sig Unit) := by
  unfold tallyAt; refine congrArg _ (Finsupp.ext fun u => ?_); cases u
  rw [Pipeline.launchCredit_owing, Finsupp.single_eq_same, Finset.sum_congr rfl fun d _ => owed₀_rcv d c x,
    Finset.sum_ite_eq' Finset.univ (src x.1 c) fun _ => N, if_pos (Finset.mem_univ _)]

/-- The cells that others credit. -/
abbrev dueOf : Unit ⊕ Send → SemLoc sig
  | .inl () => semOf (.inl ())
  | .inr x => semOf (.inr (.inr x))
theorem dueOf_injective : Function.Injective dueOf := by
  rintro (⟨⟩ | x) (⟨⟩ | y) h
  · rfl
  · exact absurd (semOf_injective (a₁ := .inl ()) (a₂ := .inr (.inr y)) h) (fun h => by cases h)
  · exact absurd (semOf_injective (a₁ := .inr (.inr x)) (a₂ := .inl ()) h) (fun h => by cases h)
  · have := semOf_injective (a₁ := .inr (.inr x)) (a₂ := .inr (.inr y)) h
    injection this with h1; injection h1 with h2; rw [h2]
theorem creds (c : Dev nD) : (Pipeline.launchCred owed₀ c : sProp 𝕄) ⊢ credAll c := by
  unfold Pipeline.launchCred
  refine (BI.bigSep_subset (Finset.subset_univ (Finset.univ.map ⟨dueOf, dueOf_injective⟩))).trans ?_
  rw [bigSep_map, bigSep_univ_sum, bigSep_univ_eq_bigSepL [()] (by decide) (by decide)]
  unfold credAll
  show iprop(cred (tallyOn (barCell c) (launchCredit (Pipeline.owing owed₀) 0 (barCell c)))
    ∗ bigSep Finset.univ fun x : Send => cred (tallyOn (rcvCell x.1 x.2.1 x.2.2 c) (launchCredit (Pipeline.owing owed₀) 0 (rcvCell x.1 x.2.1 x.2.2 c)))) ⊢ _
  iintro ⟨Hb, Hr⟩
  isplitl [Hb]
  · iapply (Entails.of_eq (congrArg (cred (nD := nD) (τ := τ) (sig := sig) (Ix := Unit)) (launch_bar c))) $$ Hb
  iapply (Entails.of_eq (bigSep_congr fun x _ => congrArg (cred (nD := nD) (τ := τ) (sig := sig) (Ix := Unit)) (launch_rcv c x))) $$ Hr

end Cert.RingProof
-- ==== Proof.Launch.lean ====
/-
# The launch

The body's specification becomes the run of the program on the four devices: from any memory with zero counters it
terminates, with the result computed, the arguments unchanged and every counter at zero.
-/
module

public import proofs.«01_k».proof.Proof.Ghost
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- The pipeline's data: three windows, staged once at the one grid point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => wstg m c
    | ⟨1, _⟩ => sxstg m c
    | ⟨2, _⟩ => swstg m c
  Φ t := match t with
    | ⟨0, _⟩ => Φ₀ m c
    | ⟨_ + 1, _⟩ => Φ₁ m c
  q _ := fullShare
  owed t := match t with
    | ⟨0, _⟩ => owed₀ c
    | ⟨_ + 1, _⟩ => 0

abbrev t₀ : Fin cfg0.N := t0_0
theorem fin_N (t : Fin cfg0.N) : t = t₀ := fin_N0 t
theorem bigSep_W (Φ : Fin cfg0.W → sProp 𝕄) : bigSep Finset.univ Φ = iprop(Φ (0 : Fin 3) ∗ Φ (1 : Fin 3) ∗ Φ (2 : Fin 3)) := bigSep_W0 Φ

theorem before_0 (c : Dev nD) (d) : (dats m ρ 0 c).before (0 : Fin 3) t₀ d = wstg m c := by unfold Dat.before; rw [if_pos (fetch0_0 t₀)]; rfl
theorem before_1 (c : Dev nD) (d) : (dats m ρ 0 c).before (1 : Fin 3) t₀ d = sxstg m c := by unfold Dat.before; rw [if_pos (fetch0_1 t₀)]; rfl
theorem before_2 (c : Dev nD) (d) : (dats m ρ 0 c).before (2 : Fin 3) t₀ d = swstg m c := by unfold Dat.before; rw [if_pos (fetch0_2 t₀)]; rfl

/-- A staging buffer at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 4000 in
def bodyPre (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ m c ∗ (dats m ρ 0 c).owesAt () t₀.succ ∗ stg c cc0_stg0_0 (wstg m c) ∗ stg c cc0_stg1_0 (sxstg m c) ∗ stg c cc0_stg2_0 (swstg m c))

/-- The body, between the pipeline's own assertions. -/
theorem sound_body (c : Dev nD) : bodyPre m ρ c ⊢ WP c body (fun _ => bodyPost m ρ c) := by
  unfold bodyPre
  simp only [before_0, before_1, before_2]
  unfold Dat.owesAt Pipeline.owesWithin
  rw [show (dats m ρ 0 c).owed t₀.castSucc = owed₀ c from rfl]
  iintro ⟨HΦ, ⟨%W, %hW, HO⟩, ⟨%_, %f0, %h0, H0⟩, ⟨%_, %f1, %h1, H1⟩, ⟨%_, %f2, %h2, H2⟩⟩
  subst h0 h1 h2
  iapply (body_spec m c (Q := fun _ => bodyPost m ρ c)) $$ [HΦ HO H0 H1 H2]
  · isplitl [HΦ]; · iexact HΦ
    isplitl [HO]; · iexists W; iexact HO
    isplitl [H0]; · iexact H0
    isplitl [H1]; · iexact H1
    iexact H2
  iintro ⟨HΦ, ⟨%W', HO⟩, H0, H1, H2⟩
  unfold bodyPost Dat.owesAt Pipeline.owesWithin
  rw [show (dats m ρ 0 c).owed t₀.succ = 0 from rfl]
  isplitl [HΦ]; · iexact HΦ
  isplitl [HO]
  · iexists W'
    isplitr; · (ipureintro; exact fun _ _ => Or.inl trivial)
    iexact HO
  isplitl [H0]
  · iexists _; isplitr; · (ipureintro; rfl)
    iexact H0
  isplitl [H1]
  · iexists _; isplitr; · (ipureintro; rfl)
    iexact H1
  iexists _; isplitr; · (ipureintro; rfl)
  iexact H2

set_option maxRecDepth 16000 in
/-- The pipeline's body obligation. -/
theorem body_obligation (c : Dev nD) : BodyObligation (dats (F := F) m ρ 0 c) (defs₀ (F := F)) 𝒱₀ () Set.univ := fun t => by
  rw [fin_N t, bigSep_W, bigSep_W]
  simp only [owns_stg]
  show bodyPre m ρ c ⊢ wp frame (wpE (defs₀ (F := F)) 𝒱₀ (c : Thread nD τ) none) Set.univ body (fun _ => bodyPost m ρ c)
  exact sound_body m ρ c

/-! ## The launch's side conditions -/

theorem share_eq (c : Dev nD) (w : Fin cfg0.W) : (dats m ρ 0 c).share w = fullShare := by unfold Dat.share; split <;> rfl

theorem owed₀_pos {c : Dev nD} {g : GSem nD τ sig} {u : Unit} (h : 0 < owed₀ c g u) :
    (∃ x : Send, g = rcvCell x.1 x.2.1 x.2.2 (dst x.1 c)) ∨ ∃ b, g = barCell b := by
  unfold owed₀ owed₁ owed at h
  rw [Pi.add_apply, Finsupp.add_apply, Pi.add_apply, Finsupp.add_apply, tallyAt_apply, tallyAt_apply] at h
  by_cases h1 : g = barCell (nxt c)
  · exact Or.inr ⟨_, h1⟩
  by_cases h2 : g = barCell (prv c)
  · exact Or.inr ⟨_, h2⟩
  rw [if_neg (fun h => h1 h.1), if_neg (fun h => h2 h.1)] at h
  obtain ⟨x, -, e⟩ := owedOf_pos (c := c) (l := order.drop 0) (g := g) (u := u) (by simpa using h)
  exact Or.inl ⟨x, e⟩

/-- The windows' semaphores are below all that a device owes. -/
theorem mayWait_stage (c : Dev nD) (q : DmaSem sig) (hq : lvOf (kindOf (.dma q)) = 0) (O : CellTallies nD τ sig Unit) (hO : O = owed₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owed₀_pos hg with ⟨x, rfl⟩ | ⟨b, rfl⟩ <;> exact Finset.mem_singleton_self _)
      (fun p hp => by rw [Finset.mem_singleton.mp hp]; exact le_of_eq hq)
      (fun g u hg => by
        rcases owed₀_pos hg with ⟨x, rfl⟩ | ⟨b, rfl⟩
        · rw [lv_rcv]; omega
        · exact Nat.one_pos)
  · rw [MayWait_zero]; iintro -; iempintro

set_option maxRecDepth 8000 in
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  unfold G'
  icases HG with ⟨Hs, HK⟩
  imodintro
  unfold start
  isplitl
  · isplitl [HK]; · iexact HK
    isplitl [Hc]; · iexact Hc
    isplitl [Hlev]; · iexact Hlev
    isplitl [Hs]; · iexact Hs
    isplitl [Hx]; · iexact Hx
    iexists _; iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- What a device keeps to the end. -/
def kept (c : Dev nD) : sProp 𝕄 :=
  iprop(unscopedSems0 c ∗ (((c : Thread nD τ).loc main_arg0) ↦{fullShare} m ((c : Thread nD τ).loc main_arg0))
    ∗ (((c : Thread nD τ).loc main_v1) ↦{fullShare} outF m c))

theorem phi1_exit (c : Dev nD) :
    (dats m ρ 0 c).Φ (Fin.last cfg0.N) ⊢ iprop(kept m c ∗ Pipeline.ownSems0 osem c ∗ Pipeline.scopedRest cfg0.spec c) := by
  unfold kept
  rw [show (dats m ρ 0 c).Φ (Fin.last cfg0.N) = Φ₁ m c from rfl, scopedRest0_eq, ownSems0_eq, unscopedSems0_eq]
  unfold Φ₁ scratch
  rw [semAll_eq]
  iintro ⟨Hx, Ho, ⟨Hb, Hs⟩, Hst, Hr⟩
  isplitl [Hx Ho Hb]
  · isplitl [Hb]; · iexact Hb
    isplitl [Hx]; · iexact Hx
    iexact Ho
  isplitl [Hs Hst]
  · isplitl [Hst]; · iexact Hst
    iexact Hs
  iexact Hr

/-- What is read of a device at the end. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0) ∧ s.mem ((c : Thread nD τ).loc main_v1) = outF m c

theorem kept_read (c : Dev nD) (s' : Phys nD τ sig (Elt F)) :
    iprop(kept m c ∗ emp ∗ SI s') ⊢ |={Set.univ}=> iprop(⌜QY m c s'.mem⌝ ∗ SI s') := by
  unfold kept
  iintro ⟨⟨Hu, Hx, Ho⟩, -, HSI⟩
  icombine HSI Hx gives %hx
  icombine HSI Ho gives %ho
  imod (Pipeline.unscopedSems0_read (X := unscopedSems0 c) (c := c) fupd_intro s') $$ [Hu HSI] with ⟨%hs, HSI⟩
  · isplitl [Hu] <;> iassumption
  imodintro
  isplitr; · ipureintro; exact ⟨hs, Buf.eq_of_forall_mem_univ hx, Buf.eq_of_forall_mem_univ ho⟩
  iexact HSI

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The windows' arrays after the run hold what they held. -/
theorem arrays_eq (c : Dev nD) (w : Fin cfg0.W) : (dats m ρ 0 c).arrAt w cfg0.N = m ((cfg0.win w).arr.view.loc (c : Thread nD τ)) :=
  (dats m ρ 0 c).arrAt_in w (by fin_cases w <;> rfl) _

/-- What a run ends in: the four arguments unchanged, and the result. -/
def Ends (r : PUnit × MemSt nD τ sig (Elt F)) : Prop :=
  (∀ c : Dev nD, r.2.mem ((c : Thread nD τ).loc main_v1) = outF m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3))
  ∧ r.2.sem = fun _ => 0

set_option maxRecDepth 8000 in
/-- Over any float values and from any memory with zero counters, every weakly fair execution of the program on the four
    devices terminates with the result computed, the arguments unchanged and every counter at zero. -/
theorem run_main : θ_run defs (onTc (τ := τ) (main (F := F))) (s₀ m ρ) (Ends m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi0_intro m ρ) (hout := phi1_exit m ρ)
    (QY := QY m)
    (hY := kept_read m)
    (hQ := fun _ h hs => ⟨fun c => ⟨(h c).2.2.2.2, (h c).2.2.2.1, ((h c).1 0).trans (arrays_eq m ρ c 0), ((h c).1 1).trans (arrays_eq m ρ c 1), ((h c).1 2).trans (arrays_eq m ρ c 2)⟩,
      sem_eq_zero hs fun c => (h c).2.2.1⟩)

end Cert.RingProof
-- ==== Proof.Block.lean ====
/-
# What the kernel's operations compute

Each load of the kernel, and over the extended reals each of its operations, read at an index.
-/
module

public import proofs.«01_k».proof.Proof.Launch
public import Idealize.ShloMosaic.Lib.MatmulPlain
public import Idealize.ShloMosaic.Lib.StackMember
public import Idealize.ShloMosaic.Lib.ValueLayout
public import Idealize.ShloMosaic.Lib.Layout

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open scoped BigOperators

/-! ## Slots and slices -/

section Casts
variable {α : Type}

theorem cast_slot (v : S1x1x512x1024.Idx → α) (h : S1x1x512x1024.ShapeCasts S512x1024) (r : Fin 512) (q : Fin 1024) :
    shapeCast S512x1024 v h (ix2 r q) = v (ix4 0 0 r q) :=
  shapeCast_apply v h _ _ (by
    rw [Shape.rowMajor_val_four, Shape.rowMajor_val_two]
    show ((0 * 1 + 0) * 512 + r.val) * 1024 + q.val = r.val * 1024 + q.val
    omega)
theorem cast_unslot (v : S512x1024.Idx → α) (h : S512x1024.ShapeCasts S1x1x512x1024) (r : Fin 512) (q : Fin 1024) :
    shapeCast S1x1x512x1024 v h (ix4 0 0 r q) = v (ix2 r q) :=
  shapeCast_apply v h _ _ (by
    rw [Shape.rowMajor_val_four, Shape.rowMajor_val_two]
    show r.val * 1024 + q.val = ((0 * 1 + 0) * 512 + r.val) * 1024 + q.val
    omega)

theorem half_le (j : Fin 2) : half j ≤ 512 := by revert j; decide
theorem col_le (d : Bool) : col d ≤ 1024 := by revert d; decide
/-- Row `r` of half `j` of 1024 rows. -/
def hrow (j : Fin 2) (r : Fin 512) : Fin 1024 := ⟨half j + r.val, by have := half_le j; omega⟩
/-- Column `q` of direction `d`'s half of 2048 columns. -/
def gcol (d : Bool) (q : Fin 1024) : Fin 2048 := ⟨col d + q.val, by have := col_le d; omega⟩
/-- Row `i` of row block `k`, counted on the ring from device `c`. -/
def grow (c : Dev nD) (k : Fin 4) (i : Fin 1024) : Fin 4096 :=
  ⟨1024 * ((c.val + k.val) % 4) + i.val, by have := Nat.mod_lt (c.val + k.val) (show 0 < 4 by decide); omega⟩

theorem slice_top (v : S1024x1024.Idx → α) (h : S1024x1024.Slices ![0, 0] S512x1024) (r : Fin 512) (q : Fin 1024) :
    extractStridedSlice S512x1024 ![0, 0] v h (ix2 r q) = v (ix2 (hrow 0 r) q) :=
  extractStridedSlice_apply _ _ h _ _ (fun a => by
    match a with
    | ⟨0, _⟩ => rfl
    | ⟨1, _⟩ => exact (Nat.zero_add _).symm)
theorem slice_bottom (v : S1024x1024.Idx → α) (h : S1024x1024.Slices ![512, 0] S512x1024) (r : Fin 512) (q : Fin 1024) :
    extractStridedSlice S512x1024 ![512, 0] v h (ix2 r q) = v (ix2 (hrow 1 r) q) :=
  extractStridedSlice_apply _ _ h _ _ (fun a => by
    match a with
    | ⟨0, _⟩ => rfl
    | ⟨1, _⟩ => exact (Nat.zero_add _).symm)

end Casts

/-! ## The kernel's loads, at an index -/

section Loads
variable {F : FTy → Type} [FloatOps F]
variable (m : (ℓ : Loc nD τ sig) → Buf (Elt F) ℓ)

theorem stageF_apply (c : Dev nD) (k : Fin 4) (i l : Fin 1024) :
    stageF m c (ix3 k i l) = m ((c : Thread nD τ).loc main_arg0) (ix2 (grow c k i) l) := by
  unfold stageF
  rw [View.read_apply]
  refine congrArg (m ((c : Thread nD τ).loc main_arg0)) ?_
  funext a; apply Fin.ext
  match a with
  | ⟨0, _⟩ =>
    show (k0_off1 c (BitVec.ofNat 32 k.val)) 0 + 1 * i.val = 1024 * ((c.val + k.val) % 4) + i.val
    rw [k0_off1_eq]; show 1024 * ((c.val + k.val) % 4) + 1 * i.val = _; omega
  | ⟨1, _⟩ =>
    show (k0_off1 c (BitVec.ofNat 32 k.val)) 1 + 1 * l.val = l.val
    rw [k0_off1_eq]; show 0 + 1 * l.val = _; omega
theorem Ab_apply (c : Dev nD) (k : Fin 4) (i l : Fin 1024) : Ab m c k (ix3 0 i l) = stageF m c (ix3 k i l) := by
  unfold Ab
  rw [View.read_apply]
  refine congrArg (stageF m c) ?_
  funext a; apply Fin.ext
  match a with
  | ⟨0, _⟩ => show k.val + 1 * 0 = k.val; omega
  | ⟨1, _⟩ => show 0 + 1 * i.val = i.val; omega
  | ⟨2, _⟩ => show 0 + 1 * l.val = l.val; omega
theorem Ah_apply (c : Dev nD) (k : Fin 4) (j : Fin 2) (r : Fin 512) (l : Fin 1024) : Ah m c k j (ix3 0 r l) = stageF m c (ix3 k (hrow j r) l) := by
  unfold Ah
  rw [View.read_apply]
  refine congrArg (stageF m c) ?_
  funext a; apply Fin.ext
  match a with
  | ⟨0, _⟩ => show k.val + 1 * 0 = k.val; omega
  | ⟨1, _⟩ => show half j + 1 * r.val = half j + r.val; omega
  | ⟨2, _⟩ => show 0 + 1 * l.val = l.val; omega
theorem wstg_apply (c : Dev nD) (l : Fin 1024) (q : Fin 2048) : wstg m c (ix2 l q) = m ((c : Thread nD τ).loc main_arg1) (ix2 l q) := by
  unfold wstg
  rw [View.read_apply]
  refine congrArg (m ((c : Thread nD τ).loc main_arg1)) ?_
  funext a; apply Fin.ext
  match a with
  | ⟨0, _⟩ => show 0 * 1024 + 1 * l.val = l.val; omega
  | ⟨1, _⟩ => show 0 * 2048 + 1 * q.val = q.val; omega
theorem Bw_apply (c : Dev nD) (d : Bool) (l q : Fin 1024) : Bw m c d (ix2 l q) = wqF m c (ix2 l (gcol d q)) := by
  unfold Bw
  rw [View.read_apply]
  refine congrArg (wqF m c) ?_
  funext a; apply Fin.ext
  match a with
  | ⟨0, _⟩ => show 0 + 1 * l.val = l.val; omega
  | ⟨1, _⟩ => show col d + 1 * q.val = col d + q.val; omega
theorem sxstg_apply (c : Dev nD) : sxstg m c (ix1 (0 : Fin 1)) = m ((c : Thread nD τ).loc main_arg2) (ix1 (0 : Fin 1)) := by
  unfold sxstg
  rw [View.read_apply]
  refine congrArg (m ((c : Thread nD τ).loc main_arg2)) ?_
  funext a; apply Fin.ext
  match a with
  | ⟨0, _⟩ => rfl
theorem swstg_apply (c : Dev nD) : swstg m c (ix1 (0 : Fin 1)) = m ((c : Thread nD τ).loc main_arg3) (ix1 (0 : Fin 1)) := by
  unfold swstg
  rw [View.read_apply]
  refine congrArg (m ((c : Thread nD τ).loc main_arg3)) ?_
  funext a; apply Fin.ext
  match a with
  | ⟨0, _⟩ => rfl

end Loads

/-! ## The kernel's arithmetic over the reals, at an index -/

theorem rowsOf_apply (j : Fin 2) (P : FVec Ideal S1024x1024 .f32) (r : Fin 512) (q : Fin 1024) :
    rowsOf j P (ix4 0 0 r q) = P (ix2 (hrow j r) q) := by
  match j with
  | 0 =>
    unfold rowsOf k0_pay11
    exact (cast_unslot _ _ r q).trans (slice_top P slices_S1024x1024_o0_0_S512x1024 r q)
  | 1 =>
    unfold rowsOf k0_pay12
    exact (cast_unslot _ _ r q).trans (slice_bottom P slices_S1024x1024_o512_0_S512x1024 r q)
theorem add_apply (a b : Vec Ideal S1x1x512x1024 .bf16) (r : Fin 512) (q : Fin 1024) :
    k0_pay14 a b (ix4 0 0 r q) = (a (ix4 0 0 r q) + b (ix4 0 0 r q) : EReal) := by
  unfold k0_pay14
  refine (cast_unslot _ _ r q).trans ?_
  show (shapeCast S512x1024 a _ (ix2 r q) + shapeCast S512x1024 b _ (ix2 r q) : EReal) = _
  rw [cast_slot, cast_slot]
theorem finOf_apply (j : Fin 2) (P : FVec Ideal S1024x1024 .f32) (sc : Ideal .f32) (v : Vec Ideal S1x1x512x1024 .bf16) (r : Fin 512) (q : Fin 1024) :
    finOf j P sc v (ix3 0 r q) = ((P (ix2 (hrow j r) q) + v (ix4 0 0 r q)) * sc : EReal) := by
  match j with
  | 0 =>
    show k0_pay32 _ _ _ _ = _
    unfold k0_pay32
    refine (shapeCast_ab_1ab_apply _ _ 0 r q).trans ?_
    show ((extractStridedSlice S512x1024 ![0, 0] P _ (ix2 r q) + shapeCast S512x1024 v _ (ix2 r q)) * sc : EReal) = _
    rw [cast_slot, slice_top]
  | 1 =>
    show k0_pay35 _ _ _ _ = _
    unfold k0_pay35
    refine (shapeCast_ab_1ab_apply _ _ 0 r q).trans ?_
    show ((extractStridedSlice S512x1024 ![512, 0] P _ (ix2 r q) + shapeCast S512x1024 v _ (ix2 r q)) * sc : EReal) = _
    rw [cast_slot, slice_bottom]
theorem block_apply (A : Vec Ideal S1x1024x1024 .f32) (B : Vec Ideal S1024x1024 .fp8e4m3) (i q : Fin 1024) :
    k0_pay7 (F := Ideal) A B (ix2 i q) = ∑ l : Fin 1024, (A (ix3 0 i l) * B (ix2 l q) : EReal) := by
  unfold k0_pay7
  show FloatOps.matmul (F := Ideal) (φ₁ := .fp8e4m3) (φ₂ := .fp8e4m3) (DotDims.plain 1024 1024 1024) none _ _ _ (ix2 i q) = _
  rw [Ideal.matmul_plain_apply]
  refine (congrArg (· + _) Ideal.ofBits_zero_f32).trans ((zero_add _).trans (Finset.sum_congr rfl fun l _ => ?_))
  exact congrArg (· * B (ix2 l q)) (shapeCast_1ab_ab_apply A _ i l)
theorem half_apply (A : Vec Ideal S1x512x1024 .f32) (B : Vec Ideal S1024x1024 .fp8e4m3) (r : Fin 512) (q : Fin 1024) :
    k0_pay2 (F := Ideal) A B (ix4 0 0 r q) = ∑ l : Fin 1024, (A (ix3 0 r l) * B (ix2 l q) : EReal) := by
  unfold k0_pay2
  refine (cast_unslot _ _ r q).trans ?_
  show FloatOps.matmul (F := Ideal) (φ₁ := .fp8e4m3) (φ₂ := .fp8e4m3) (DotDims.plain 512 1024 1024) none _ _ _ (ix2 r q) = _
  rw [Ideal.matmul_plain_apply]
  refine (congrArg (· + _) Ideal.ofBits_zero_f32).trans ((zero_add _).trans (Finset.sum_congr rfl fun l _ => ?_))
  exact congrArg (· * B (ix2 l q)) (shapeCast_1ab_ab_apply A _ r l)

end Cert.RingProof
-- ==== Proof.Sum.lean ====
/-
# What the result holds

Over the extended reals the result of device `c` is its rows of the sum, over the devices, of the products of their
columns of `x` with their rows of `w`, times the product of the two scale factors; and that sum is the whole product.
-/
module

public import proofs.«01_k».proof.Proof.Block

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open scoped BigOperators

variable (m : (ℓ : Loc nD τ sig) → Buf (Elt Ideal) ℓ)

/-- Entry (`i`, `l`) of device `c`'s columns of `x`. -/
def xE (c : Dev nD) (i : Fin 4096) (l : Fin 1024) : EReal := m ((c : Thread nD τ).loc main_arg0) (ix2 i l)
/-- Entry (`l`, `q`) of device `c`'s rows of `w`. -/
def wE (c : Dev nD) (l : Fin 1024) (q : Fin 2048) : EReal := m ((c : Thread nD τ).loc main_arg1) (ix2 l q)
/-- The two scale factors on device `c`. -/
def sxE (c : Dev nD) : EReal := m ((c : Thread nD τ).loc main_arg2) (ix1 (0 : Fin 1))
def swE (c : Dev nD) : EReal := m ((c : Thread nD τ).loc main_arg3) (ix1 (0 : Fin 1))

/-- Entry (`i`, `q`) of the product of device `c`'s columns of `x` with its rows of `w`. -/
def prod (c : Dev nD) (i : Fin 4096) (q : Fin 2048) : EReal := ∑ l : Fin 1024, xE m c i l * wE m c l q

theorem wqF_apply (c : Dev nD) (l : Fin 1024) (q : Fin 2048) : wqF m c (ix2 l q) = m ((c : Thread nD τ).loc main_arg1) (ix2 l q) := by
  unfold wqF k0_pay1
  rw [shapeCast_self]
  refine (?_ : _ = wstg m c (ix2 l q)).trans (wstg_apply m c l q)
  exact congrFun (shapeCast_self (wstg m c) shapeCasts_S1024x2048_S1024x2048) (ix2 l q)

theorem part_apply (c : Dev nD) (k : Fin 4) (d : Bool) (i q : Fin 1024) : part m c k d (ix2 i q) = prod m c (grow c k i) (gcol d q) := by
  unfold part prod
  rw [block_apply]
  exact Finset.sum_congr rfl fun l _ => by rw [Ab_apply, stageF_apply, Bw_apply, wqF_apply]; rfl
theorem sent0_apply (d : Bool) (j : Fin 2) (c : Dev nD) (r : Fin 512) (q : Fin 1024) :
    sent0 m d j c (ix4 0 0 r q) = prod m c (grow c (first d) (hrow j r)) (gcol d q) := by
  unfold sent0 prod
  rw [half_apply]
  exact Finset.sum_congr rfl fun l _ => by rw [Ah_apply, stageF_apply, Bw_apply, wqF_apply]; rfl
theorem sent1_apply (d : Bool) (j : Fin 2) (c : Dev nD) (r : Fin 512) (q : Fin 1024) :
    sent1 m d j c (ix4 0 0 r q)
      = prod m c (grow c 2 (hrow j r)) (gcol d q) + prod m (src d c) (grow (src d c) (first d) (hrow j r)) (gcol d q) := by
  unfold sent1
  rw [add_apply, rowsOf_apply, part_apply, sent0_apply]
theorem sent2_apply (d : Bool) (j : Fin 2) (c : Dev nD) (r : Fin 512) (q : Fin 1024) :
    sent2 m d j c (ix4 0 0 r q)
      = prod m c (grow c (third d) (hrow j r)) (gcol d q) + (prod m (src d c) (grow (src d c) 2 (hrow j r)) (gcol d q)
        + prod m (src d (src d c)) (grow (src d (src d c)) (first d) (hrow j r)) (gcol d q)) := by
  unfold sent2
  rw [add_apply, rowsOf_apply, part_apply, sent1_apply]

/-- How many steps to the right the device is from which one receives. -/
def back (d : Bool) : ℕ := match d with | true => 3 | false => 1
theorem src_val (d : Bool) (c : Dev nD) : (src d c).val = (c.val + back d) % 4 := by cases d <;> [exact nxt_val c; exact prv_val c]

theorem grow_congr {c c' : Dev nD} {k k' : Fin 4} (h : (c.val + k.val) % 4 = (c'.val + k'.val) % 4) (i : Fin 1024) :
    grow c k i = grow c' k' i := by
  apply Fin.ext; show 1024 * ((c.val + k.val) % 4) + i.val = 1024 * ((c'.val + k'.val) % 4) + i.val; rw [h]

/-- The rows that the devices up the ring work on in the rounds before are those of the device that ends with them. -/
theorem grow_third (d : Bool) (c : Dev nD) (i : Fin 1024) : grow (src d c) (third d) i = grow c 0 i := by
  refine grow_congr ?_ i; rw [src_val]; cases d <;> simp only [back, third] <;> have := c.2 <;> change c.val < 4 at this <;> omega
theorem grow_second (d : Bool) (c : Dev nD) (i : Fin 1024) : grow (src d (src d c)) 2 i = grow c 0 i := by
  refine grow_congr ?_ i; rw [src_val, src_val]; cases d <;> simp only [back] <;> have := c.2 <;> change c.val < 4 at this <;> omega
theorem grow_first (d : Bool) (c : Dev nD) (i : Fin 1024) : grow (src d (src d (src d c))) (first d) i = grow c 0 i := by
  refine grow_congr ?_ i; rw [src_val, src_val, src_val]; cases d <;> simp only [back, first] <;> have := c.2 <;> change c.val < 4 at this <;> omega

/-- Once round the ring is every device. -/
theorem sum_ring (d : Bool) (c : Dev nD) (f : Dev nD → EReal) :
    f c + (f (src d c) + (f (src d (src d c)) + f (src d (src d (src d c))))) = ∑ e : Dev nD, f e := by
  refine Eq.trans ?_ (Fin.sum_univ_four (f : Fin 4 → EReal)).symm
  have hn : ∀ a b : Dev nD, (a.val + back d) % 4 = b.val → src d a = b := fun a b h => Fin.ext ((src_val d a).trans h)
  cases d
  · have h0 : src false 0 = 1 := hn 0 1 rfl
    have h1 : src false 1 = 2 := hn 1 2 rfl
    have h2 : src false 2 = 3 := hn 2 3 rfl
    have h3 : src false 3 = 0 := hn 3 0 rfl
    match c with
    | 0 => rw [h0, h1, h2]; abel
    | 1 => rw [h1, h2, h3]; abel
    | 2 => rw [h2, h3, h0]; abel
    | 3 => rw [h3, h0, h1]; abel
  · have h0 : src true 0 = 3 := hn 0 3 rfl
    have h1 : src true 1 = 0 := hn 1 0 rfl
    have h2 : src true 2 = 1 := hn 2 1 rfl
    have h3 : src true 3 = 2 := hn 3 2 rfl
    match c with
    | 0 => rw [h0, h3, h2]; abel
    | 1 => rw [h1, h0, h3]; abel
    | 2 => rw [h2, h1, h0]; abel
    | 3 => rw [h3, h2, h1]; abel

theorem scl_apply (c : Dev nD) : scl m c = sxE m c * swE m c := by
  unfold scl k0_pay31
  rw [sxstg_apply, swstg_apply]; rfl

/-- A quarter of the result: the sum over the devices, scaled. -/
theorem outH_apply (d : Bool) (j : Fin 2) (c : Dev nD) (r : Fin 512) (q : Fin 1024) :
    outH m d j c (ix3 0 r q) = (∑ e : Dev nD, prod m e (grow c 0 (hrow j r)) (gcol d q)) * scl m c := by
  unfold outH
  rw [finOf_apply, part_apply, sent2_apply, grow_third, grow_second, grow_first, sum_ring d c fun e => prod m e (grow c 0 (hrow j r)) (gcol d q)]

/-- The result on device `c`: its rows of the sum of the devices' products, scaled. -/
theorem outF_apply (c : Dev nD) (i : Fin 1024) (q : Fin 2048) :
    outF m c (ix2 i q) = (∑ e : Dev nD, prod m e (grow c 0 i) q) * scl m c := by
  unfold outF
  refine (outH_apply m _ _ c _ _).trans ?_
  have hi : hrow (if i.val < 512 then 0 else 1) ⟨i.val % 512, Nat.mod_lt _ (by decide)⟩ = i := by
    apply Fin.ext
    by_cases h : i.val < 512
    · rw [if_pos h]; show 0 + i.val % 512 = i.val; omega
    · rw [if_neg h]; show 512 + i.val % 512 = i.val; omega
  have hq : gcol (decide (q.val < 1024)) ⟨q.val % 1024, Nat.mod_lt _ (by decide)⟩ = q := by
    apply Fin.ext
    by_cases h : q.val < 1024
    · rw [decide_eq_true h]; show 0 + q.val % 1024 = q.val; omega
    · rw [decide_eq_false h]; show 1024 + q.val % 1024 = q.val; omega
  show (∑ e : Dev nD, prod m e (grow c 0 (hrow (if i.val < 512 then 0 else 1) ⟨i.val % 512, _⟩)) (gcol (decide (q.val < 1024)) ⟨q.val % 1024, _⟩)) * _ = _
  rw [hi, hq]

/-! ## Against the whole arrays -/

/-- Entry (`i`, `q`) of the whole product, as the devices' shares of it. -/
theorem whole_sum (X : (⟨2, ![4096, 4096]⟩ : Shape).Idx → EReal) (W : (⟨2, ![4096, 2048]⟩ : Shape).Idx → EReal)
    (hX : ∀ c : Dev nD, m ((c : Thread nD τ).loc main_arg0) = Layout.block ⟨2, ![4096, 1024]⟩ ⟨2, ![4096, 4096]⟩ 1 4 c X)
    (hW : ∀ c : Dev nD, m ((c : Thread nD τ).loc main_arg1) = Layout.block ⟨2, ![1024, 2048]⟩ ⟨2, ![4096, 2048]⟩ 0 4 c W)
    (i : Fin 4096) (q : Fin 2048) : ∑ e : Dev nD, prod m e i q = ∑ k : Fin 4096, X (ix2 i k) * W (ix2 k q) := by
  rw [← Equiv.sum_comp (finProdFinEquiv (m := 4) (n := 1024)) (fun k : Fin 4096 => X (ix2 i k) * W (ix2 k q)), Fintype.sum_prod_type]
  refine Finset.sum_congr rfl fun e _ => Finset.sum_congr rfl fun l _ => ?_
  unfold xE wE
  rw [hX e, hW e]
  refine congrArg₂ (fun a b : EReal => a * b) (congrArg X ?_) (congrArg W ?_)
  · funext a; apply Fin.ext
    match a with
    | ⟨0, _⟩ => rfl
    | ⟨1, _⟩ => show e.val * 1024 + l.val = l.val + 1024 * e.val; omega
  · funext a; apply Fin.ext
    match a with
    | ⟨0, _⟩ => show e.val * 1024 + l.val = l.val + 1024 * e.val; omega
    | ⟨1, _⟩ => rfl

end Cert.RingProof
-- ==== Proof.Equation.lean ====
/-
# The kernel's result is the reference's

The reference's result is the product of the whole arrays, scaled. Block `c` of it, cut along the rows, is what the
kernel leaves on device `c`.
-/
module

public import proofs.«01_k».proof.Proof.Sum
public import proofs.«01_k».proof.Proof.Gen.ReferenceIdeal
public import Idealize.ShloMosaic.Lib.StackMember

@[expose] public section

noncomputable section

namespace Cert.RingProof

open Cert.ReferenceIdeal.Gen
open Idealize.ShloMosaic
open Idealize.ShloMosaic.TcCoe
open Idealize.ShloMosaic.ValueIdx
open scoped BigOperators

/-- The reference's composed term, of its four arguments. -/
def refOut (X : FVec Ideal Cert.ReferenceIdeal.S4096x4096 .f32) (W : FVec Ideal Cert.ReferenceIdeal.S4096x2048 .f32)
    (a b : FVec Ideal Cert.ReferenceIdeal.S1 .f32) : FVec Ideal Cert.ReferenceIdeal.S4096x2048 .f32 :=
  mulf (Host.dotGeneral Cert.ReferenceIdeal.dot_S4096x4096_S4096x2048_S4096x2048_1_0_0_1_n_n none X W)
    (broadcastInDim Cert.ReferenceIdeal.S4096x2048 ![0, 1] Cert.ReferenceIdeal.Gen.bcast_S1x1_S4096x2048_0_1
      (broadcastInDim Cert.ReferenceIdeal.S1x1 ![1] Cert.ReferenceIdeal.Gen.bcast_S1_S1x1_1 (mulf a b)))

/-- The reference's result at an index: the sum over the whole inner axis, times the product of the scale factors. -/
theorem refOut_apply (X : FVec Ideal Cert.ReferenceIdeal.S4096x4096 .f32) (W : FVec Ideal Cert.ReferenceIdeal.S4096x2048 .f32)
    (a b : FVec Ideal Cert.ReferenceIdeal.S1 .f32) (i : Fin 4096) (q : Fin 2048) :
    refOut X W a b (ix2 i q)
      = ((∑ k : Fin 4096, (X (ix2 i k) : EReal) * W (ix2 k q)) * ((a (ix1 (0 : Fin 1)) : EReal) * b (ix1 (0 : Fin 1))) : EReal) := by
  refine congrArg₂ (fun u v : EReal => u * v) (StackMember.dotGeneral_plain_apply none X W i q) ?_
  refine (broadcastInDim_apply _ _ _ (ix2 i q) (ix2 (0 : Fin 1) (0 : Fin 1)) ?_).trans
    ((broadcastInDim_apply _ _ _ (ix2 (0 : Fin 1) (0 : Fin 1)) (ix1 (0 : Fin 1)) ?_).trans rfl)
  · intro x
    match x with
    | ⟨0, _⟩ => rfl
    | ⟨1, _⟩ => rfl
  · intro x
    match x with
    | ⟨0, _⟩ => rfl

/-- Where each device holds its columns of `X`, its rows of `W` and both scale factors, the kernel's result on device `c`
    is block `c`, along the rows, of the reference's. -/
theorem outF_eq (m : (ℓ : Loc Cert.KernelIdeal.nD Cert.KernelIdeal.τ Cert.KernelIdeal.sig) → Buf (Elt Ideal) ℓ)
    (X : FVec Ideal Cert.ReferenceIdeal.S4096x4096 .f32) (W : FVec Ideal Cert.ReferenceIdeal.S4096x2048 .f32)
    (a b : FVec Ideal Cert.ReferenceIdeal.S1 .f32)
    (hX : ∀ c : Dev Cert.KernelIdeal.nD, m ((c.tc : Thread Cert.KernelIdeal.nD Cert.KernelIdeal.τ).loc Cert.KernelIdeal.main_arg0) = Layout.block ⟨2, ![4096, 1024]⟩ ⟨2, ![4096, 4096]⟩ 1 4 c X)
    (hW : ∀ c : Dev Cert.KernelIdeal.nD, m ((c.tc : Thread Cert.KernelIdeal.nD Cert.KernelIdeal.τ).loc Cert.KernelIdeal.main_arg1) = Layout.block ⟨2, ![1024, 2048]⟩ ⟨2, ![4096, 2048]⟩ 0 4 c W)
    (ha : ∀ c : Dev Cert.KernelIdeal.nD, m ((c.tc : Thread Cert.KernelIdeal.nD Cert.KernelIdeal.τ).loc Cert.KernelIdeal.main_arg2) = a)
    (hb : ∀ c : Dev Cert.KernelIdeal.nD, m ((c.tc : Thread Cert.KernelIdeal.nD Cert.KernelIdeal.τ).loc Cert.KernelIdeal.main_arg3) = b)
    (c : Dev Cert.KernelIdeal.nD) :
    outF m c = Layout.block ⟨2, ![1024, 2048]⟩ ⟨2, ![4096, 2048]⟩ 0 4 c (refOut X W a b) := by
  funext i
  obtain ⟨r, q, rfl⟩ : ∃ (r : Fin 1024) (q : Fin 2048), i = ix2 r q := ⟨i 0, i 1, eq_ix2 i⟩
  refine (outF_apply m c r q).trans ?_
  have hi : ∀ h : Layout.Tiles ⟨2, ![1024, 2048]⟩ ⟨2, ![4096, 2048]⟩ 0 4, h.idx c (ix2 r q) = ix2 (grow c 0 r) q := by
    intro h
    funext x; apply Fin.ext
    match x with
    | ⟨0, _⟩ =>
      have hc : c.val < 4 := c.2
      show c.val * 1024 + r.val = 1024 * ((c.val + 0) % 4) + r.val; omega
    | ⟨1, _⟩ => rfl
  rw [Layout.block_apply, hi]
  refine Eq.trans ?_ (refOut_apply X W a b (grow c 0 r) q).symm
  rw [whole_sum m X W hX hW, scl_apply]
  unfold sxE swE
  rw [ha c, hb c]

end Cert.RingProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's body tables before and after idealization are the same text: so they are equal at each label. -/
theorem defs₀_eq : Cert.Kernel.defs₀ (F := Bits) = Cert.KernelIdeal.defs₀ (F := Bits) := by
  unfold Cert.Kernel.defs₀ Cert.KernelIdeal.defs₀
  congr 1
  funext l a
  match l, a with
  | ⟨0, _⟩, (t, s) => rfl
  | ⟨_ + 1, h⟩, _ => exact absurd h (Nat.not_lt.2 (Nat.le_add_left _ _))

/-- So are the tables with each call's pipeline. -/
theorem defs_eq : Cert.Kernel.defs (F := Bits) = Cert.KernelIdeal.defs (F := Bits) :=
  congrArg (Pipeline.defs (Cert.KernelIdeal.pcfgs (F := Bits))) defs₀_eq

/-- The kernel at the machine's own floats ends quiescent, its arguments unchanged. -/
theorem frame_kernel : Cert.quiescent_Kernel := fun m ρ _ => by
  rw [defs_eq]
  exact (θ_run (Cert.KernelIdeal.defs (F := Bits)) (onTc (Cert.KernelIdeal.main (F := Bits))) (Cert.RingProof.s₀ m ρ)).mono
    (fun _ h => ⟨fun c => (h.1 c).2, h.2⟩) (Cert.RingProof.run_main (F := Bits) m ρ)

/-- So it does at the extended reals. -/
theorem frame_kernelIdeal : Cert.quiescent_KernelIdeal := fun m ρ _ =>
  (θ_run Cert.KernelIdeal.defs _ _).mono (fun _ h => ⟨fun c => (h.1 c).2, h.2⟩) (Cert.RingProof.run_main (F := Ideal) m ρ)

/-- The reference ends quiescent, its arguments unchanged. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Each device's result is its block of rows of the reference's. -/
theorem value : Cert.algebraic_KernelIdeal_ReferenceIdeal := fun m ρ m' ρ' _ h =>
  ⟨_, (θ_run Cert.KernelIdeal.defs _ _).mono
      (fun _ e c => ⟨(e.1 c).1.trans (Cert.RingProof.outF_eq m _ _ _ _ (fun c => (h c).1) (fun c => (h c).2.1)
        (fun c => (h c).2.2.1) (fun c => (h c).2.2.2) c), (e.1 c).2⟩)
      (Cert.RingProof.run_main (F := Ideal) m ρ),
    (θ_run Cert.ReferenceIdeal.defs _ _).mono (fun _ e => e 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
